-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 1024]⟩ ⟨2, ![4096, 4096]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![1024, 2048]⟩ ⟨2, ![4096, 2048]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x1024 : Shape := ⟨2, ![4096, 1024]⟩
abbrev S4096x2048 : Shape := ⟨2, ![4096, 2048]⟩
abbrev S1 : Shape := ⟨1, ![1]⟩
abbrev S1024x2048 : Shape := ⟨2, ![1024, 2048]⟩
abbrev S4x1024x1024 : Shape := ⟨3, ![4, 1024, 1024]⟩
abbrev S1024x1024 : Shape := ⟨2, ![1024, 1024]⟩
abbrev S4x1024x2048 : Shape := ⟨3, ![4, 1024, 2048]⟩
abbrev S3x8 : Shape := ⟨2, ![3, 8]⟩
abbrev S_ : Shape := ⟨0, ![]⟩
abbrev S4 : Shape := ⟨1, ![4]⟩
abbrev S1x1024x2048 : Shape := ⟨3, ![1, 1024, 2048]⟩
abbrev S1x1 : Shape := ⟨2, ![1, 1]⟩
abbrev S1x128x1024 : Shape := ⟨3, ![1, 128, 1024]⟩
abbrev S128x1024 : Shape := ⟨2, ![128, 1024]⟩
abbrev S128x2048 : Shape := ⟨2, ![128, 2048]⟩

abbrev nBuf : Space → Nat
  | .hbm => 5
  | .vmem => 4
  | .smem => 2
  | _ => 0

abbrev bufTy : (tb : Table) → Fin (tcTables nBuf tb) → BufTy
  | .hbm, ⟨0, _⟩ => ⟨S4096x1024, .i8⟩
  | .hbm, ⟨1, _⟩ => ⟨S4096x2048, .i8⟩
  | .hbm, ⟨2, _⟩ => ⟨S1, .f32⟩
  | .hbm, ⟨3, _⟩ => ⟨S1, .f32⟩
  | .hbm, ⟨4, _⟩ => ⟨S1024x2048, .f32⟩
  | .local _ .vmem, ⟨0, _⟩ => ⟨S1024x2048, .f32⟩
  | .local _ .vmem, ⟨1, _⟩ => ⟨S4x1024x1024, .i8⟩
  | .local _ .vmem, ⟨2, _⟩ => ⟨S1024x1024, .i8⟩
  | .local _ .vmem, ⟨3, _⟩ => ⟨S4x1024x2048, .i8⟩
  | .local _ .smem, ⟨0, _⟩ => ⟨S1, .f32⟩
  | .local _ .smem, ⟨1, _⟩ => ⟨S1, .f32⟩
  | _, _ => ⟨S4096x1024, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨0, _⟩ => true
  | .smem, ⟨1, _⟩ => true
  | _, _ => false

abbrev semScoped : Fin 1 → Bool
  | ⟨0, _⟩ => false
  | _ => false

abbrev dmaSemScoped : Fin 56 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | _ => false

abbrev sig : RefSig :=
  (ofTc nBuf bufTy 1 56 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg2_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev barrier0 : Sem sig := 0

abbrev nD : Nat := 4
abbrev τ : Topo := Topo.v7x

variable {F : FTy → Type} [FloatOps F]

abbrev grid0 : Pipeline.Grid := .none

def k0_off1 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32 : BitVec 32 := 1024#32
  let v3 : BitVec 32 := Scalar.muli v2 c1024_i32
  let c0_i32 : BitVec 32 := 0#32
  ![v3.toNat, 0]
def k0_off2 (d0 : Dev nD) (c0_i32_0 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v5 : BitVec 32 := Scalar.addi v2 c0_i32_0
  let c4_i32_1 : BitVec 32 := 4#32
  let c0_i32_2 : BitVec 32 := 0#32
  let v6 : BitVec 1 := Scalar.cmpi .eq c4_i32_1 c0_i32_2
  let c1_i32_3 : BitVec 32 := 1#32
  let v7 : BitVec 32 := Scalar.select v6 c1_i32_3 c4_i32_1
  let v8 : BitVec 32 := Scalar.remsi v5 v7
  let c0_i32_5 : BitVec 32 := 0#32
  let v10 : BitVec 1 := Scalar.cmpi .slt v8 c0_i32_5
  let c0_i32_6 : BitVec 32 := 0#32
  let v11 : BitVec 1 := Scalar.cmpi .slt v7 c0_i32_6
  let v12 : BitVec 1 := Scalar.xori v10 v11
  let c0_i32_4 : BitVec 32 := 0#32
  let v9 : BitVec 1 := Scalar.cmpi .ne v8 c0_i32_4
  let v13 : BitVec 1 := Scalar.andi v12 v9
  let v14 : BitVec 32 := Scalar.addi v8 v7
  let v15 : BitVec 32 := Scalar.select v13 v14 v8
  let c0_i32_9 : BitVec 32 := 0#32
  let c0_i32_10 : BitVec 32 := 0#32
  ![v15.toNat, 0, 0]
def k0_off3 (d0 : Dev nD) (c0_i32_0 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v5 : BitVec 32 := Scalar.addi v2 c0_i32_0
  let c4_i32_1 : BitVec 32 := 4#32
  let c0_i32_2 : BitVec 32 := 0#32
  let v6 : BitVec 1 := Scalar.cmpi .eq c4_i32_1 c0_i32_2
  let c1_i32_3 : BitVec 32 := 1#32
  let v7 : BitVec 32 := Scalar.select v6 c1_i32_3 c4_i32_1
  let v8 : BitVec 32 := Scalar.remsi v5 v7
  let c0_i32_5 : BitVec 32 := 0#32
  let v10 : BitVec 1 := Scalar.cmpi .slt v8 c0_i32_5
  let c0_i32_6 : BitVec 32 := 0#32
  let v11 : BitVec 1 := Scalar.cmpi .slt v7 c0_i32_6
  let v12 : BitVec 1 := Scalar.xori v10 v11
  let c0_i32_4 : BitVec 32 := 0#32
  let v9 : BitVec 1 := Scalar.cmpi .ne v8 c0_i32_4
  let v13 : BitVec 1 := Scalar.andi v12 v9
  let v14 : BitVec 32 := Scalar.addi v8 v7
  let v15 : BitVec 32 := Scalar.select v13 v14 v8
  let c1024_i32_7 : BitVec 32 := 1024#32
  let v16 : BitVec 32 := Scalar.muli v15 c1024_i32_7
  let c0_i32_11 : BitVec 32 := 0#32
  ![v16.toNat, 0]
def k0_dev1 (d0 : Dev nD) : Nat :=
  let c0_i32_55 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_46 : BitVec 32 := 1#32
  let v74 : BitVec 32 := Scalar.addi v2 c1_i32_46
  let c4_i32_47 : BitVec 32 := 4#32
  let c0_i32_48 : BitVec 32 := 0#32
  let v75 : BitVec 1 := Scalar.cmpi .eq c4_i32_47 c0_i32_48
  let c1_i32_49 : BitVec 32 := 1#32
  let v76 : BitVec 32 := Scalar.select v75 c1_i32_49 c4_i32_47
  let v77 : BitVec 32 := Scalar.remsi v74 v76
  let c0_i32_51 : BitVec 32 := 0#32
  let v79 : BitVec 1 := Scalar.cmpi .slt v77 c0_i32_51
  let c0_i32_52 : BitVec 32 := 0#32
  let v80 : BitVec 1 := Scalar.cmpi .slt v76 c0_i32_52
  let v81 : BitVec 1 := Scalar.xori v79 v80
  let c0_i32_50 : BitVec 32 := 0#32
  let v78 : BitVec 1 := Scalar.cmpi .ne v77 c0_i32_50
  let v82 : BitVec 1 := Scalar.andi v81 v78
  let v83 : BitVec 32 := Scalar.addi v77 v76
  let v84 : BitVec 32 := Scalar.select v82 v83 v77
  let c1_i32_54 : BitVec 32 := 1#32
  let v85 : BitVec 32 := Scalar.muli v84 c1_i32_54
  let v86 : BitVec 32 := Scalar.addi c0_i32_55 v85
  v86.toNat
def k0_dev2 (d0 : Dev nD) : Nat :=
  let c0_i32_65 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_56 : BitVec 32 := 2#32
  let v87 : BitVec 32 := Scalar.addi v2 c2_i32_56
  let c4_i32_57 : BitVec 32 := 4#32
  let c0_i32_58 : BitVec 32 := 0#32
  let v88 : BitVec 1 := Scalar.cmpi .eq c4_i32_57 c0_i32_58
  let c1_i32_59 : BitVec 32 := 1#32
  let v89 : BitVec 32 := Scalar.select v88 c1_i32_59 c4_i32_57
  let v90 : BitVec 32 := Scalar.remsi v87 v89
  let c0_i32_61 : BitVec 32 := 0#32
  let v92 : BitVec 1 := Scalar.cmpi .slt v90 c0_i32_61
  let c0_i32_62 : BitVec 32 := 0#32
  let v93 : BitVec 1 := Scalar.cmpi .slt v89 c0_i32_62
  let v94 : BitVec 1 := Scalar.xori v92 v93
  let c0_i32_60 : BitVec 32 := 0#32
  let v91 : BitVec 1 := Scalar.cmpi .ne v90 c0_i32_60
  let v95 : BitVec 1 := Scalar.andi v94 v91
  let v96 : BitVec 32 := Scalar.addi v90 v89
  let v97 : BitVec 32 := Scalar.select v95 v96 v90
  let c1_i32_64 : BitVec 32 := 1#32
  let v98 : BitVec 32 := Scalar.muli v97 c1_i32_64
  let v99 : BitVec 32 := Scalar.addi c0_i32_65 v98
  v99.toNat
def k0_dev3 (d0 : Dev nD) : Nat :=
  let c0_i32_75 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_66 : BitVec 32 := 3#32
  let v100 : BitVec 32 := Scalar.addi v2 c3_i32_66
  let c4_i32_67 : BitVec 32 := 4#32
  let c0_i32_68 : BitVec 32 := 0#32
  let v101 : BitVec 1 := Scalar.cmpi .eq c4_i32_67 c0_i32_68
  let c1_i32_69 : BitVec 32 := 1#32
  let v102 : BitVec 32 := Scalar.select v101 c1_i32_69 c4_i32_67
  let v103 : BitVec 32 := Scalar.remsi v100 v102
  let c0_i32_71 : BitVec 32 := 0#32
  let v105 : BitVec 1 := Scalar.cmpi .slt v103 c0_i32_71
  let c0_i32_72 : BitVec 32 := 0#32
  let v106 : BitVec 1 := Scalar.cmpi .slt v102 c0_i32_72
  let v107 : BitVec 1 := Scalar.xori v105 v106
  let c0_i32_70 : BitVec 32 := 0#32
  let v104 : BitVec 1 := Scalar.cmpi .ne v103 c0_i32_70
  let v108 : BitVec 1 := Scalar.andi v107 v104
  let v109 : BitVec 32 := Scalar.addi v103 v102
  let v110 : BitVec 32 := Scalar.select v108 v109 v103
  let c1_i32_74 : BitVec 32 := 1#32
  let v111 : BitVec 32 := Scalar.muli v110 c1_i32_74
  let v112 : BitVec 32 := Scalar.addi c0_i32_75 v111
  v112.toNat
def k0_off4 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_92 : BitVec 32 := 0#32
  let c0_i32_93 : BitVec 32 := 0#32
  ![v2.toNat, 0, 0]
def k0_off5 (d0 : Dev nD) (c1_i32_77 : BitVec 32) (c0_i32_85 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v113 : BitVec 32 := Scalar.addi v2 c1_i32_77
  let c4_i32_78 : BitVec 32 := 4#32
  let c0_i32_79 : BitVec 32 := 0#32
  let v114 : BitVec 1 := Scalar.cmpi .eq c4_i32_78 c0_i32_79
  let c1_i32_80 : BitVec 32 := 1#32
  let v115 : BitVec 32 := Scalar.select v114 c1_i32_80 c4_i32_78
  let v116 : BitVec 32 := Scalar.remsi v113 v115
  let c0_i32_82 : BitVec 32 := 0#32
  let v118 : BitVec 1 := Scalar.cmpi .slt v116 c0_i32_82
  let c0_i32_83 : BitVec 32 := 0#32
  let v119 : BitVec 1 := Scalar.cmpi .slt v115 c0_i32_83
  let v120 : BitVec 1 := Scalar.xori v118 v119
  let c0_i32_81 : BitVec 32 := 0#32
  let v117 : BitVec 1 := Scalar.cmpi .ne v116 c0_i32_81
  let v121 : BitVec 1 := Scalar.andi v120 v117
  let v122 : BitVec 32 := Scalar.addi v116 v115
  let v123 : BitVec 32 := Scalar.select v121 v122 v116
  let c1024_i32_84 : BitVec 32 := 1024#32
  let v124 : BitVec 32 := Scalar.muli v123 c1024_i32_84
  let v125 : BitVec 32 := Scalar.addi v124 c0_i32_85
  let c0_i32_94 : BitVec 32 := 0#32
  ![v125.toNat, 0]
def k0_dev4 (d0 : Dev nD) : Nat :=
  let c0_i32_91 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_77 : BitVec 32 := 1#32
  let v113 : BitVec 32 := Scalar.addi v2 c1_i32_77
  let c4_i32_78 : BitVec 32 := 4#32
  let c0_i32_79 : BitVec 32 := 0#32
  let v114 : BitVec 1 := Scalar.cmpi .eq c4_i32_78 c0_i32_79
  let c1_i32_80 : BitVec 32 := 1#32
  let v115 : BitVec 32 := Scalar.select v114 c1_i32_80 c4_i32_78
  let v116 : BitVec 32 := Scalar.remsi v113 v115
  let c0_i32_82 : BitVec 32 := 0#32
  let v118 : BitVec 1 := Scalar.cmpi .slt v116 c0_i32_82
  let c0_i32_83 : BitVec 32 := 0#32
  let v119 : BitVec 1 := Scalar.cmpi .slt v115 c0_i32_83
  let v120 : BitVec 1 := Scalar.xori v118 v119
  let c0_i32_81 : BitVec 32 := 0#32
  let v117 : BitVec 1 := Scalar.cmpi .ne v116 c0_i32_81
  let v121 : BitVec 1 := Scalar.andi v120 v117
  let v122 : BitVec 32 := Scalar.addi v116 v115
  let v123 : BitVec 32 := Scalar.select v121 v122 v116
  let c1_i32_90 : BitVec 32 := 1#32
  let v126 : BitVec 32 := Scalar.muli v123 c1_i32_90
  let v127 : BitVec 32 := Scalar.addi c0_i32_91 v126
  v127.toNat
def k0_dev5 (d0 : Dev nD) : Nat :=
  let c0_i32_109 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_95 : BitVec 32 := 3#32
  let v135 : BitVec 32 := Scalar.addi v2 c3_i32_95
  let c4_i32_96 : BitVec 32 := 4#32
  let c0_i32_97 : BitVec 32 := 0#32
  let v136 : BitVec 1 := Scalar.cmpi .eq c4_i32_96 c0_i32_97
  let c1_i32_98 : BitVec 32 := 1#32
  let v137 : BitVec 32 := Scalar.select v136 c1_i32_98 c4_i32_96
  let v138 : BitVec 32 := Scalar.remsi v135 v137
  let c0_i32_100 : BitVec 32 := 0#32
  let v140 : BitVec 1 := Scalar.cmpi .slt v138 c0_i32_100
  let c0_i32_101 : BitVec 32 := 0#32
  let v141 : BitVec 1 := Scalar.cmpi .slt v137 c0_i32_101
  let v142 : BitVec 1 := Scalar.xori v140 v141
  let c0_i32_99 : BitVec 32 := 0#32
  let v139 : BitVec 1 := Scalar.cmpi .ne v138 c0_i32_99
  let v143 : BitVec 1 := Scalar.andi v142 v139
  let v144 : BitVec 32 := Scalar.addi v138 v137
  let v145 : BitVec 32 := Scalar.select v143 v144 v138
  let c1_i32_108 : BitVec 32 := 1#32
  let v148 : BitVec 32 := Scalar.muli v145 c1_i32_108
  let v149 : BitVec 32 := Scalar.addi c0_i32_109 v148
  v149.toNat
def k0_dev6 (d0 : Dev nD) : Nat :=
  let c0_i32_127 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_113 : BitVec 32 := 2#32
  let v157 : BitVec 32 := Scalar.addi v2 c2_i32_113
  let c4_i32_114 : BitVec 32 := 4#32
  let c0_i32_115 : BitVec 32 := 0#32
  let v158 : BitVec 1 := Scalar.cmpi .eq c4_i32_114 c0_i32_115
  let c1_i32_116 : BitVec 32 := 1#32
  let v159 : BitVec 32 := Scalar.select v158 c1_i32_116 c4_i32_114
  let v160 : BitVec 32 := Scalar.remsi v157 v159
  let c0_i32_118 : BitVec 32 := 0#32
  let v162 : BitVec 1 := Scalar.cmpi .slt v160 c0_i32_118
  let c0_i32_119 : BitVec 32 := 0#32
  let v163 : BitVec 1 := Scalar.cmpi .slt v159 c0_i32_119
  let v164 : BitVec 1 := Scalar.xori v162 v163
  let c0_i32_117 : BitVec 32 := 0#32
  let v161 : BitVec 1 := Scalar.cmpi .ne v160 c0_i32_117
  let v165 : BitVec 1 := Scalar.andi v164 v161
  let v166 : BitVec 32 := Scalar.addi v160 v159
  let v167 : BitVec 32 := Scalar.select v165 v166 v160
  let c1_i32_126 : BitVec 32 := 1#32
  let v170 : BitVec 32 := Scalar.muli v167 c1_i32_126
  let v171 : BitVec 32 := Scalar.addi c0_i32_127 v170
  v171.toNat
def k0_off6 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c128_i32_145 : BitVec 32 := 128#32
  let c0_i32_146 : BitVec 32 := 0#32
  ![v2.toNat, 128, 0]
def k0_dev7 (d0 : Dev nD) : Nat :=
  let c0_i32_144 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_131 : BitVec 32 := 1#32
  let v179 : BitVec 32 := Scalar.addi v2 c1_i32_131
  let c4_i32_132 : BitVec 32 := 4#32
  let c0_i32_133 : BitVec 32 := 0#32
  let v180 : BitVec 1 := Scalar.cmpi .eq c4_i32_132 c0_i32_133
  let c1_i32_134 : BitVec 32 := 1#32
  let v181 : BitVec 32 := Scalar.select v180 c1_i32_134 c4_i32_132
  let v182 : BitVec 32 := Scalar.remsi v179 v181
  let c0_i32_136 : BitVec 32 := 0#32
  let v184 : BitVec 1 := Scalar.cmpi .slt v182 c0_i32_136
  let c0_i32_137 : BitVec 32 := 0#32
  let v185 : BitVec 1 := Scalar.cmpi .slt v181 c0_i32_137
  let v186 : BitVec 1 := Scalar.xori v184 v185
  let c0_i32_135 : BitVec 32 := 0#32
  let v183 : BitVec 1 := Scalar.cmpi .ne v182 c0_i32_135
  let v187 : BitVec 1 := Scalar.andi v186 v183
  let v188 : BitVec 32 := Scalar.addi v182 v181
  let v189 : BitVec 32 := Scalar.select v187 v188 v182
  let c1_i32_143 : BitVec 32 := 1#32
  let v192 : BitVec 32 := Scalar.muli v189 c1_i32_143
  let v193 : BitVec 32 := Scalar.addi c0_i32_144 v192
  v193.toNat
def k0_dev8 (d0 : Dev nD) : Nat :=
  let c0_i32_162 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_148 : BitVec 32 := 3#32
  let v201 : BitVec 32 := Scalar.addi v2 c3_i32_148
  let c4_i32_149 : BitVec 32 := 4#32
  let c0_i32_150 : BitVec 32 := 0#32
  let v202 : BitVec 1 := Scalar.cmpi .eq c4_i32_149 c0_i32_150
  let c1_i32_151 : BitVec 32 := 1#32
  let v203 : BitVec 32 := Scalar.select v202 c1_i32_151 c4_i32_149
  let v204 : BitVec 32 := Scalar.remsi v201 v203
  let c0_i32_153 : BitVec 32 := 0#32
  let v206 : BitVec 1 := Scalar.cmpi .slt v204 c0_i32_153
  let c0_i32_154 : BitVec 32 := 0#32
  let v207 : BitVec 1 := Scalar.cmpi .slt v203 c0_i32_154
  let v208 : BitVec 1 := Scalar.xori v206 v207
  let c0_i32_152 : BitVec 32 := 0#32
  let v205 : BitVec 1 := Scalar.cmpi .ne v204 c0_i32_152
  let v209 : BitVec 1 := Scalar.andi v208 v205
  let v210 : BitVec 32 := Scalar.addi v204 v203
  let v211 : BitVec 32 := Scalar.select v209 v210 v204
  let c1_i32_161 : BitVec 32 := 1#32
  let v214 : BitVec 32 := Scalar.muli v211 c1_i32_161
  let v215 : BitVec 32 := Scalar.addi c0_i32_162 v214
  v215.toNat
def k0_dev9 (d0 : Dev nD) : Nat :=
  let c0_i32_180 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_166 : BitVec 32 := 2#32
  let v223 : BitVec 32 := Scalar.addi v2 c2_i32_166
  let c4_i32_167 : BitVec 32 := 4#32
  let c0_i32_168 : BitVec 32 := 0#32
  let v224 : BitVec 1 := Scalar.cmpi .eq c4_i32_167 c0_i32_168
  let c1_i32_169 : BitVec 32 := 1#32
  let v225 : BitVec 32 := Scalar.select v224 c1_i32_169 c4_i32_167
  let v226 : BitVec 32 := Scalar.remsi v223 v225
  let c0_i32_171 : BitVec 32 := 0#32
  let v228 : BitVec 1 := Scalar.cmpi .slt v226 c0_i32_171
  let c0_i32_172 : BitVec 32 := 0#32
  let v229 : BitVec 1 := Scalar.cmpi .slt v225 c0_i32_172
  let v230 : BitVec 1 := Scalar.xori v228 v229
  let c0_i32_170 : BitVec 32 := 0#32
  let v227 : BitVec 1 := Scalar.cmpi .ne v226 c0_i32_170
  let v231 : BitVec 1 := Scalar.andi v230 v227
  let v232 : BitVec 32 := Scalar.addi v226 v225
  let v233 : BitVec 32 := Scalar.select v231 v232 v226
  let c1_i32_179 : BitVec 32 := 1#32
  let v236 : BitVec 32 := Scalar.muli v233 c1_i32_179
  let v237 : BitVec 32 := Scalar.addi c0_i32_180 v236
  v237.toNat
def k0_off7 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_198 : BitVec 32 := 256#32
  let c0_i32_199 : BitVec 32 := 0#32
  ![v2.toNat, 256, 0]
def k0_dev10 (d0 : Dev nD) : Nat :=
  let c0_i32_197 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_184 : BitVec 32 := 1#32
  let v245 : BitVec 32 := Scalar.addi v2 c1_i32_184
  let c4_i32_185 : BitVec 32 := 4#32
  let c0_i32_186 : BitVec 32 := 0#32
  let v246 : BitVec 1 := Scalar.cmpi .eq c4_i32_185 c0_i32_186
  let c1_i32_187 : BitVec 32 := 1#32
  let v247 : BitVec 32 := Scalar.select v246 c1_i32_187 c4_i32_185
  let v248 : BitVec 32 := Scalar.remsi v245 v247
  let c0_i32_189 : BitVec 32 := 0#32
  let v250 : BitVec 1 := Scalar.cmpi .slt v248 c0_i32_189
  let c0_i32_190 : BitVec 32 := 0#32
  let v251 : BitVec 1 := Scalar.cmpi .slt v247 c0_i32_190
  let v252 : BitVec 1 := Scalar.xori v250 v251
  let c0_i32_188 : BitVec 32 := 0#32
  let v249 : BitVec 1 := Scalar.cmpi .ne v248 c0_i32_188
  let v253 : BitVec 1 := Scalar.andi v252 v249
  let v254 : BitVec 32 := Scalar.addi v248 v247
  let v255 : BitVec 32 := Scalar.select v253 v254 v248
  let c1_i32_196 : BitVec 32 := 1#32
  let v258 : BitVec 32 := Scalar.muli v255 c1_i32_196
  let v259 : BitVec 32 := Scalar.addi c0_i32_197 v258
  v259.toNat
def k0_dev11 (d0 : Dev nD) : Nat :=
  let c0_i32_215 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_201 : BitVec 32 := 3#32
  let v267 : BitVec 32 := Scalar.addi v2 c3_i32_201
  let c4_i32_202 : BitVec 32 := 4#32
  let c0_i32_203 : BitVec 32 := 0#32
  let v268 : BitVec 1 := Scalar.cmpi .eq c4_i32_202 c0_i32_203
  let c1_i32_204 : BitVec 32 := 1#32
  let v269 : BitVec 32 := Scalar.select v268 c1_i32_204 c4_i32_202
  let v270 : BitVec 32 := Scalar.remsi v267 v269
  let c0_i32_206 : BitVec 32 := 0#32
  let v272 : BitVec 1 := Scalar.cmpi .slt v270 c0_i32_206
  let c0_i32_207 : BitVec 32 := 0#32
  let v273 : BitVec 1 := Scalar.cmpi .slt v269 c0_i32_207
  let v274 : BitVec 1 := Scalar.xori v272 v273
  let c0_i32_205 : BitVec 32 := 0#32
  let v271 : BitVec 1 := Scalar.cmpi .ne v270 c0_i32_205
  let v275 : BitVec 1 := Scalar.andi v274 v271
  let v276 : BitVec 32 := Scalar.addi v270 v269
  let v277 : BitVec 32 := Scalar.select v275 v276 v270
  let c1_i32_214 : BitVec 32 := 1#32
  let v280 : BitVec 32 := Scalar.muli v277 c1_i32_214
  let v281 : BitVec 32 := Scalar.addi c0_i32_215 v280
  v281.toNat
def k0_dev12 (d0 : Dev nD) : Nat :=
  let c0_i32_233 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_219 : BitVec 32 := 2#32
  let v289 : BitVec 32 := Scalar.addi v2 c2_i32_219
  let c4_i32_220 : BitVec 32 := 4#32
  let c0_i32_221 : BitVec 32 := 0#32
  let v290 : BitVec 1 := Scalar.cmpi .eq c4_i32_220 c0_i32_221
  let c1_i32_222 : BitVec 32 := 1#32
  let v291 : BitVec 32 := Scalar.select v290 c1_i32_222 c4_i32_220
  let v292 : BitVec 32 := Scalar.remsi v289 v291
  let c0_i32_224 : BitVec 32 := 0#32
  let v294 : BitVec 1 := Scalar.cmpi .slt v292 c0_i32_224
  let c0_i32_225 : BitVec 32 := 0#32
  let v295 : BitVec 1 := Scalar.cmpi .slt v291 c0_i32_225
  let v296 : BitVec 1 := Scalar.xori v294 v295
  let c0_i32_223 : BitVec 32 := 0#32
  let v293 : BitVec 1 := Scalar.cmpi .ne v292 c0_i32_223
  let v297 : BitVec 1 := Scalar.andi v296 v293
  let v298 : BitVec 32 := Scalar.addi v292 v291
  let v299 : BitVec 32 := Scalar.select v297 v298 v292
  let c1_i32_232 : BitVec 32 := 1#32
  let v302 : BitVec 32 := Scalar.muli v299 c1_i32_232
  let v303 : BitVec 32 := Scalar.addi c0_i32_233 v302
  v303.toNat
def k0_off8 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c384_i32_251 : BitVec 32 := 384#32
  let c0_i32_252 : BitVec 32 := 0#32
  ![v2.toNat, 384, 0]
def k0_dev13 (d0 : Dev nD) : Nat :=
  let c0_i32_250 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_237 : BitVec 32 := 1#32
  let v311 : BitVec 32 := Scalar.addi v2 c1_i32_237
  let c4_i32_238 : BitVec 32 := 4#32
  let c0_i32_239 : BitVec 32 := 0#32
  let v312 : BitVec 1 := Scalar.cmpi .eq c4_i32_238 c0_i32_239
  let c1_i32_240 : BitVec 32 := 1#32
  let v313 : BitVec 32 := Scalar.select v312 c1_i32_240 c4_i32_238
  let v314 : BitVec 32 := Scalar.remsi v311 v313
  let c0_i32_242 : BitVec 32 := 0#32
  let v316 : BitVec 1 := Scalar.cmpi .slt v314 c0_i32_242
  let c0_i32_243 : BitVec 32 := 0#32
  let v317 : BitVec 1 := Scalar.cmpi .slt v313 c0_i32_243
  let v318 : BitVec 1 := Scalar.xori v316 v317
  let c0_i32_241 : BitVec 32 := 0#32
  let v315 : BitVec 1 := Scalar.cmpi .ne v314 c0_i32_241
  let v319 : BitVec 1 := Scalar.andi v318 v315
  let v320 : BitVec 32 := Scalar.addi v314 v313
  let v321 : BitVec 32 := Scalar.select v319 v320 v314
  let c1_i32_249 : BitVec 32 := 1#32
  let v324 : BitVec 32 := Scalar.muli v321 c1_i32_249
  let v325 : BitVec 32 := Scalar.addi c0_i32_250 v324
  v325.toNat
def k0_dev14 (d0 : Dev nD) : Nat :=
  let c0_i32_268 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_254 : BitVec 32 := 3#32
  let v333 : BitVec 32 := Scalar.addi v2 c3_i32_254
  let c4_i32_255 : BitVec 32 := 4#32
  let c0_i32_256 : BitVec 32 := 0#32
  let v334 : BitVec 1 := Scalar.cmpi .eq c4_i32_255 c0_i32_256
  let c1_i32_257 : BitVec 32 := 1#32
  let v335 : BitVec 32 := Scalar.select v334 c1_i32_257 c4_i32_255
  let v336 : BitVec 32 := Scalar.remsi v333 v335
  let c0_i32_259 : BitVec 32 := 0#32
  let v338 : BitVec 1 := Scalar.cmpi .slt v336 c0_i32_259
  let c0_i32_260 : BitVec 32 := 0#32
  let v339 : BitVec 1 := Scalar.cmpi .slt v335 c0_i32_260
  let v340 : BitVec 1 := Scalar.xori v338 v339
  let c0_i32_258 : BitVec 32 := 0#32
  let v337 : BitVec 1 := Scalar.cmpi .ne v336 c0_i32_258
  let v341 : BitVec 1 := Scalar.andi v340 v337
  let v342 : BitVec 32 := Scalar.addi v336 v335
  let v343 : BitVec 32 := Scalar.select v341 v342 v336
  let c1_i32_267 : BitVec 32 := 1#32
  let v346 : BitVec 32 := Scalar.muli v343 c1_i32_267
  let v347 : BitVec 32 := Scalar.addi c0_i32_268 v346
  v347.toNat
def k0_dev15 (d0 : Dev nD) : Nat :=
  let c0_i32_286 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_272 : BitVec 32 := 2#32
  let v355 : BitVec 32 := Scalar.addi v2 c2_i32_272
  let c4_i32_273 : BitVec 32 := 4#32
  let c0_i32_274 : BitVec 32 := 0#32
  let v356 : BitVec 1 := Scalar.cmpi .eq c4_i32_273 c0_i32_274
  let c1_i32_275 : BitVec 32 := 1#32
  let v357 : BitVec 32 := Scalar.select v356 c1_i32_275 c4_i32_273
  let v358 : BitVec 32 := Scalar.remsi v355 v357
  let c0_i32_277 : BitVec 32 := 0#32
  let v360 : BitVec 1 := Scalar.cmpi .slt v358 c0_i32_277
  let c0_i32_278 : BitVec 32 := 0#32
  let v361 : BitVec 1 := Scalar.cmpi .slt v357 c0_i32_278
  let v362 : BitVec 1 := Scalar.xori v360 v361
  let c0_i32_276 : BitVec 32 := 0#32
  let v359 : BitVec 1 := Scalar.cmpi .ne v358 c0_i32_276
  let v363 : BitVec 1 := Scalar.andi v362 v359
  let v364 : BitVec 32 := Scalar.addi v358 v357
  let v365 : BitVec 32 := Scalar.select v363 v364 v358
  let c1_i32_285 : BitVec 32 := 1#32
  let v368 : BitVec 32 := Scalar.muli v365 c1_i32_285
  let v369 : BitVec 32 := Scalar.addi c0_i32_286 v368
  v369.toNat
def k0_off9 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32_304 : BitVec 32 := 512#32
  let c0_i32_305 : BitVec 32 := 0#32
  ![v2.toNat, 512, 0]
def k0_dev16 (d0 : Dev nD) : Nat :=
  let c0_i32_303 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_290 : BitVec 32 := 1#32
  let v377 : BitVec 32 := Scalar.addi v2 c1_i32_290
  let c4_i32_291 : BitVec 32 := 4#32
  let c0_i32_292 : BitVec 32 := 0#32
  let v378 : BitVec 1 := Scalar.cmpi .eq c4_i32_291 c0_i32_292
  let c1_i32_293 : BitVec 32 := 1#32
  let v379 : BitVec 32 := Scalar.select v378 c1_i32_293 c4_i32_291
  let v380 : BitVec 32 := Scalar.remsi v377 v379
  let c0_i32_295 : BitVec 32 := 0#32
  let v382 : BitVec 1 := Scalar.cmpi .slt v380 c0_i32_295
  let c0_i32_296 : BitVec 32 := 0#32
  let v383 : BitVec 1 := Scalar.cmpi .slt v379 c0_i32_296
  let v384 : BitVec 1 := Scalar.xori v382 v383
  let c0_i32_294 : BitVec 32 := 0#32
  let v381 : BitVec 1 := Scalar.cmpi .ne v380 c0_i32_294
  let v385 : BitVec 1 := Scalar.andi v384 v381
  let v386 : BitVec 32 := Scalar.addi v380 v379
  let v387 : BitVec 32 := Scalar.select v385 v386 v380
  let c1_i32_302 : BitVec 32 := 1#32
  let v390 : BitVec 32 := Scalar.muli v387 c1_i32_302
  let v391 : BitVec 32 := Scalar.addi c0_i32_303 v390
  v391.toNat
def k0_dev17 (d0 : Dev nD) : Nat :=
  let c0_i32_321 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_307 : BitVec 32 := 3#32
  let v399 : BitVec 32 := Scalar.addi v2 c3_i32_307
  let c4_i32_308 : BitVec 32 := 4#32
  let c0_i32_309 : BitVec 32 := 0#32
  let v400 : BitVec 1 := Scalar.cmpi .eq c4_i32_308 c0_i32_309
  let c1_i32_310 : BitVec 32 := 1#32
  let v401 : BitVec 32 := Scalar.select v400 c1_i32_310 c4_i32_308
  let v402 : BitVec 32 := Scalar.remsi v399 v401
  let c0_i32_312 : BitVec 32 := 0#32
  let v404 : BitVec 1 := Scalar.cmpi .slt v402 c0_i32_312
  let c0_i32_313 : BitVec 32 := 0#32
  let v405 : BitVec 1 := Scalar.cmpi .slt v401 c0_i32_313
  let v406 : BitVec 1 := Scalar.xori v404 v405
  let c0_i32_311 : BitVec 32 := 0#32
  let v403 : BitVec 1 := Scalar.cmpi .ne v402 c0_i32_311
  let v407 : BitVec 1 := Scalar.andi v406 v403
  let v408 : BitVec 32 := Scalar.addi v402 v401
  let v409 : BitVec 32 := Scalar.select v407 v408 v402
  let c1_i32_320 : BitVec 32 := 1#32
  let v412 : BitVec 32 := Scalar.muli v409 c1_i32_320
  let v413 : BitVec 32 := Scalar.addi c0_i32_321 v412
  v413.toNat
def k0_dev18 (d0 : Dev nD) : Nat :=
  let c0_i32_339 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_325 : BitVec 32 := 2#32
  let v421 : BitVec 32 := Scalar.addi v2 c2_i32_325
  let c4_i32_326 : BitVec 32 := 4#32
  let c0_i32_327 : BitVec 32 := 0#32
  let v422 : BitVec 1 := Scalar.cmpi .eq c4_i32_326 c0_i32_327
  let c1_i32_328 : BitVec 32 := 1#32
  let v423 : BitVec 32 := Scalar.select v422 c1_i32_328 c4_i32_326
  let v424 : BitVec 32 := Scalar.remsi v421 v423
  let c0_i32_330 : BitVec 32 := 0#32
  let v426 : BitVec 1 := Scalar.cmpi .slt v424 c0_i32_330
  let c0_i32_331 : BitVec 32 := 0#32
  let v427 : BitVec 1 := Scalar.cmpi .slt v423 c0_i32_331
  let v428 : BitVec 1 := Scalar.xori v426 v427
  let c0_i32_329 : BitVec 32 := 0#32
  let v425 : BitVec 1 := Scalar.cmpi .ne v424 c0_i32_329
  let v429 : BitVec 1 := Scalar.andi v428 v425
  let v430 : BitVec 32 := Scalar.addi v424 v423
  let v431 : BitVec 32 := Scalar.select v429 v430 v424
  let c1_i32_338 : BitVec 32 := 1#32
  let v434 : BitVec 32 := Scalar.muli v431 c1_i32_338
  let v435 : BitVec 32 := Scalar.addi c0_i32_339 v434
  v435.toNat
def k0_off10 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c640_i32_356 : BitVec 32 := 640#32
  let c0_i32_357 : BitVec 32 := 0#32
  ![v2.toNat, 640, 0]
def k0_dev19 (d0 : Dev nD) : Nat :=
  let c0_i32_355 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_343 : BitVec 32 := 1#32
  let v443 : BitVec 32 := Scalar.addi v2 c1_i32_343
  let c4_i32_344 : BitVec 32 := 4#32
  let c0_i32_345 : BitVec 32 := 0#32
  let v444 : BitVec 1 := Scalar.cmpi .eq c4_i32_344 c0_i32_345
  let c1_i32_346 : BitVec 32 := 1#32
  let v445 : BitVec 32 := Scalar.select v444 c1_i32_346 c4_i32_344
  let v446 : BitVec 32 := Scalar.remsi v443 v445
  let c0_i32_348 : BitVec 32 := 0#32
  let v448 : BitVec 1 := Scalar.cmpi .slt v446 c0_i32_348
  let c0_i32_349 : BitVec 32 := 0#32
  let v449 : BitVec 1 := Scalar.cmpi .slt v445 c0_i32_349
  let v450 : BitVec 1 := Scalar.xori v448 v449
  let c0_i32_347 : BitVec 32 := 0#32
  let v447 : BitVec 1 := Scalar.cmpi .ne v446 c0_i32_347
  let v451 : BitVec 1 := Scalar.andi v450 v447
  let v452 : BitVec 32 := Scalar.addi v446 v445
  let v453 : BitVec 32 := Scalar.select v451 v452 v446
  let c1_i32_354 : BitVec 32 := 1#32
  let v456 : BitVec 32 := Scalar.muli v453 c1_i32_354
  let v457 : BitVec 32 := Scalar.addi c0_i32_355 v456
  v457.toNat
def k0_dev20 (d0 : Dev nD) : Nat :=
  let c0_i32_373 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_359 : BitVec 32 := 3#32
  let v465 : BitVec 32 := Scalar.addi v2 c3_i32_359
  let c4_i32_360 : BitVec 32 := 4#32
  let c0_i32_361 : BitVec 32 := 0#32
  let v466 : BitVec 1 := Scalar.cmpi .eq c4_i32_360 c0_i32_361
  let c1_i32_362 : BitVec 32 := 1#32
  let v467 : BitVec 32 := Scalar.select v466 c1_i32_362 c4_i32_360
  let v468 : BitVec 32 := Scalar.remsi v465 v467
  let c0_i32_364 : BitVec 32 := 0#32
  let v470 : BitVec 1 := Scalar.cmpi .slt v468 c0_i32_364
  let c0_i32_365 : BitVec 32 := 0#32
  let v471 : BitVec 1 := Scalar.cmpi .slt v467 c0_i32_365
  let v472 : BitVec 1 := Scalar.xori v470 v471
  let c0_i32_363 : BitVec 32 := 0#32
  let v469 : BitVec 1 := Scalar.cmpi .ne v468 c0_i32_363
  let v473 : BitVec 1 := Scalar.andi v472 v469
  let v474 : BitVec 32 := Scalar.addi v468 v467
  let v475 : BitVec 32 := Scalar.select v473 v474 v468
  let c1_i32_372 : BitVec 32 := 1#32
  let v478 : BitVec 32 := Scalar.muli v475 c1_i32_372
  let v479 : BitVec 32 := Scalar.addi c0_i32_373 v478
  v479.toNat
def k0_dev21 (d0 : Dev nD) : Nat :=
  let c0_i32_391 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_377 : BitVec 32 := 2#32
  let v487 : BitVec 32 := Scalar.addi v2 c2_i32_377
  let c4_i32_378 : BitVec 32 := 4#32
  let c0_i32_379 : BitVec 32 := 0#32
  let v488 : BitVec 1 := Scalar.cmpi .eq c4_i32_378 c0_i32_379
  let c1_i32_380 : BitVec 32 := 1#32
  let v489 : BitVec 32 := Scalar.select v488 c1_i32_380 c4_i32_378
  let v490 : BitVec 32 := Scalar.remsi v487 v489
  let c0_i32_382 : BitVec 32 := 0#32
  let v492 : BitVec 1 := Scalar.cmpi .slt v490 c0_i32_382
  let c0_i32_383 : BitVec 32 := 0#32
  let v493 : BitVec 1 := Scalar.cmpi .slt v489 c0_i32_383
  let v494 : BitVec 1 := Scalar.xori v492 v493
  let c0_i32_381 : BitVec 32 := 0#32
  let v491 : BitVec 1 := Scalar.cmpi .ne v490 c0_i32_381
  let v495 : BitVec 1 := Scalar.andi v494 v491
  let v496 : BitVec 32 := Scalar.addi v490 v489
  let v497 : BitVec 32 := Scalar.select v495 v496 v490
  let c1_i32_390 : BitVec 32 := 1#32
  let v500 : BitVec 32 := Scalar.muli v497 c1_i32_390
  let v501 : BitVec 32 := Scalar.addi c0_i32_391 v500
  v501.toNat
def k0_off11 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c768_i32_408 : BitVec 32 := 768#32
  let c0_i32_409 : BitVec 32 := 0#32
  ![v2.toNat, 768, 0]
def k0_dev22 (d0 : Dev nD) : Nat :=
  let c0_i32_407 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_395 : BitVec 32 := 1#32
  let v509 : BitVec 32 := Scalar.addi v2 c1_i32_395
  let c4_i32_396 : BitVec 32 := 4#32
  let c0_i32_397 : BitVec 32 := 0#32
  let v510 : BitVec 1 := Scalar.cmpi .eq c4_i32_396 c0_i32_397
  let c1_i32_398 : BitVec 32 := 1#32
  let v511 : BitVec 32 := Scalar.select v510 c1_i32_398 c4_i32_396
  let v512 : BitVec 32 := Scalar.remsi v509 v511
  let c0_i32_400 : BitVec 32 := 0#32
  let v514 : BitVec 1 := Scalar.cmpi .slt v512 c0_i32_400
  let c0_i32_401 : BitVec 32 := 0#32
  let v515 : BitVec 1 := Scalar.cmpi .slt v511 c0_i32_401
  let v516 : BitVec 1 := Scalar.xori v514 v515
  let c0_i32_399 : BitVec 32 := 0#32
  let v513 : BitVec 1 := Scalar.cmpi .ne v512 c0_i32_399
  let v517 : BitVec 1 := Scalar.andi v516 v513
  let v518 : BitVec 32 := Scalar.addi v512 v511
  let v519 : BitVec 32 := Scalar.select v517 v518 v512
  let c1_i32_406 : BitVec 32 := 1#32
  let v522 : BitVec 32 := Scalar.muli v519 c1_i32_406
  let v523 : BitVec 32 := Scalar.addi c0_i32_407 v522
  v523.toNat
def k0_dev23 (d0 : Dev nD) : Nat :=
  let c0_i32_425 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_411 : BitVec 32 := 3#32
  let v531 : BitVec 32 := Scalar.addi v2 c3_i32_411
  let c4_i32_412 : BitVec 32 := 4#32
  let c0_i32_413 : BitVec 32 := 0#32
  let v532 : BitVec 1 := Scalar.cmpi .eq c4_i32_412 c0_i32_413
  let c1_i32_414 : BitVec 32 := 1#32
  let v533 : BitVec 32 := Scalar.select v532 c1_i32_414 c4_i32_412
  let v534 : BitVec 32 := Scalar.remsi v531 v533
  let c0_i32_416 : BitVec 32 := 0#32
  let v536 : BitVec 1 := Scalar.cmpi .slt v534 c0_i32_416
  let c0_i32_417 : BitVec 32 := 0#32
  let v537 : BitVec 1 := Scalar.cmpi .slt v533 c0_i32_417
  let v538 : BitVec 1 := Scalar.xori v536 v537
  let c0_i32_415 : BitVec 32 := 0#32
  let v535 : BitVec 1 := Scalar.cmpi .ne v534 c0_i32_415
  let v539 : BitVec 1 := Scalar.andi v538 v535
  let v540 : BitVec 32 := Scalar.addi v534 v533
  let v541 : BitVec 32 := Scalar.select v539 v540 v534
  let c1_i32_424 : BitVec 32 := 1#32
  let v544 : BitVec 32 := Scalar.muli v541 c1_i32_424
  let v545 : BitVec 32 := Scalar.addi c0_i32_425 v544
  v545.toNat
def k0_dev24 (d0 : Dev nD) : Nat :=
  let c0_i32_443 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_429 : BitVec 32 := 2#32
  let v553 : BitVec 32 := Scalar.addi v2 c2_i32_429
  let c4_i32_430 : BitVec 32 := 4#32
  let c0_i32_431 : BitVec 32 := 0#32
  let v554 : BitVec 1 := Scalar.cmpi .eq c4_i32_430 c0_i32_431
  let c1_i32_432 : BitVec 32 := 1#32
  let v555 : BitVec 32 := Scalar.select v554 c1_i32_432 c4_i32_430
  let v556 : BitVec 32 := Scalar.remsi v553 v555
  let c0_i32_434 : BitVec 32 := 0#32
  let v558 : BitVec 1 := Scalar.cmpi .slt v556 c0_i32_434
  let c0_i32_435 : BitVec 32 := 0#32
  let v559 : BitVec 1 := Scalar.cmpi .slt v555 c0_i32_435
  let v560 : BitVec 1 := Scalar.xori v558 v559
  let c0_i32_433 : BitVec 32 := 0#32
  let v557 : BitVec 1 := Scalar.cmpi .ne v556 c0_i32_433
  let v561 : BitVec 1 := Scalar.andi v560 v557
  let v562 : BitVec 32 := Scalar.addi v556 v555
  let v563 : BitVec 32 := Scalar.select v561 v562 v556
  let c1_i32_442 : BitVec 32 := 1#32
  let v566 : BitVec 32 := Scalar.muli v563 c1_i32_442
  let v567 : BitVec 32 := Scalar.addi c0_i32_443 v566
  v567.toNat
def k0_off12 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c896_i32_460 : BitVec 32 := 896#32
  let c0_i32_461 : BitVec 32 := 0#32
  ![v2.toNat, 896, 0]
def k0_dev25 (d0 : Dev nD) : Nat :=
  let c0_i32_459 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_447 : BitVec 32 := 1#32
  let v575 : BitVec 32 := Scalar.addi v2 c1_i32_447
  let c4_i32_448 : BitVec 32 := 4#32
  let c0_i32_449 : BitVec 32 := 0#32
  let v576 : BitVec 1 := Scalar.cmpi .eq c4_i32_448 c0_i32_449
  let c1_i32_450 : BitVec 32 := 1#32
  let v577 : BitVec 32 := Scalar.select v576 c1_i32_450 c4_i32_448
  let v578 : BitVec 32 := Scalar.remsi v575 v577
  let c0_i32_452 : BitVec 32 := 0#32
  let v580 : BitVec 1 := Scalar.cmpi .slt v578 c0_i32_452
  let c0_i32_453 : BitVec 32 := 0#32
  let v581 : BitVec 1 := Scalar.cmpi .slt v577 c0_i32_453
  let v582 : BitVec 1 := Scalar.xori v580 v581
  let c0_i32_451 : BitVec 32 := 0#32
  let v579 : BitVec 1 := Scalar.cmpi .ne v578 c0_i32_451
  let v583 : BitVec 1 := Scalar.andi v582 v579
  let v584 : BitVec 32 := Scalar.addi v578 v577
  let v585 : BitVec 32 := Scalar.select v583 v584 v578
  let c1_i32_458 : BitVec 32 := 1#32
  let v588 : BitVec 32 := Scalar.muli v585 c1_i32_458
  let v589 : BitVec 32 := Scalar.addi c0_i32_459 v588
  v589.toNat
def k0_dev26 (d0 : Dev nD) : Nat :=
  let c0_i32_477 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_463 : BitVec 32 := 3#32
  let v597 : BitVec 32 := Scalar.addi v2 c3_i32_463
  let c4_i32_464 : BitVec 32 := 4#32
  let c0_i32_465 : BitVec 32 := 0#32
  let v598 : BitVec 1 := Scalar.cmpi .eq c4_i32_464 c0_i32_465
  let c1_i32_466 : BitVec 32 := 1#32
  let v599 : BitVec 32 := Scalar.select v598 c1_i32_466 c4_i32_464
  let v600 : BitVec 32 := Scalar.remsi v597 v599
  let c0_i32_468 : BitVec 32 := 0#32
  let v602 : BitVec 1 := Scalar.cmpi .slt v600 c0_i32_468
  let c0_i32_469 : BitVec 32 := 0#32
  let v603 : BitVec 1 := Scalar.cmpi .slt v599 c0_i32_469
  let v604 : BitVec 1 := Scalar.xori v602 v603
  let c0_i32_467 : BitVec 32 := 0#32
  let v601 : BitVec 1 := Scalar.cmpi .ne v600 c0_i32_467
  let v605 : BitVec 1 := Scalar.andi v604 v601
  let v606 : BitVec 32 := Scalar.addi v600 v599
  let v607 : BitVec 32 := Scalar.select v605 v606 v600
  let c1_i32_476 : BitVec 32 := 1#32
  let v610 : BitVec 32 := Scalar.muli v607 c1_i32_476
  let v611 : BitVec 32 := Scalar.addi c0_i32_477 v610
  v611.toNat
def k0_dev27 (d0 : Dev nD) : Nat :=
  let c0_i32_495 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_481 : BitVec 32 := 2#32
  let v619 : BitVec 32 := Scalar.addi v2 c2_i32_481
  let c4_i32_482 : BitVec 32 := 4#32
  let c0_i32_483 : BitVec 32 := 0#32
  let v620 : BitVec 1 := Scalar.cmpi .eq c4_i32_482 c0_i32_483
  let c1_i32_484 : BitVec 32 := 1#32
  let v621 : BitVec 32 := Scalar.select v620 c1_i32_484 c4_i32_482
  let v622 : BitVec 32 := Scalar.remsi v619 v621
  let c0_i32_486 : BitVec 32 := 0#32
  let v624 : BitVec 1 := Scalar.cmpi .slt v622 c0_i32_486
  let c0_i32_487 : BitVec 32 := 0#32
  let v625 : BitVec 1 := Scalar.cmpi .slt v621 c0_i32_487
  let v626 : BitVec 1 := Scalar.xori v624 v625
  let c0_i32_485 : BitVec 32 := 0#32
  let v623 : BitVec 1 := Scalar.cmpi .ne v622 c0_i32_485
  let v627 : BitVec 1 := Scalar.andi v626 v623
  let v628 : BitVec 32 := Scalar.addi v622 v621
  let v629 : BitVec 32 := Scalar.select v627 v628 v622
  let c1_i32_494 : BitVec 32 := 1#32
  let v632 : BitVec 32 := Scalar.muli v629 c1_i32_494
  let v633 : BitVec 32 := Scalar.addi c0_i32_495 v632
  v633.toNat
def k0_off13 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v649 : Index := Scalar.indexCast v2
  let c0_505 : Index := 0#32
  let c0_506 : Index := 0#32
  ![v649.toNat, 0, 0]
def k0_off14 (d0 : Dev nD) (c1_i32_538 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_537 : BitVec 32 := 4#32
  let v706 : BitVec 32 := Scalar.addi v2 c4_i32_537
  let v707 : BitVec 32 := Scalar.subi v706 c1_i32_538
  let c4_i32_539 : BitVec 32 := 4#32
  let c0_i32_540 : BitVec 32 := 0#32
  let v708 : BitVec 1 := Scalar.cmpi .eq c4_i32_539 c0_i32_540
  let c1_i32_541 : BitVec 32 := 1#32
  let v709 : BitVec 32 := Scalar.select v708 c1_i32_541 c4_i32_539
  let v710 : BitVec 32 := Scalar.remsi v707 v709
  let c0_i32_543 : BitVec 32 := 0#32
  let v712 : BitVec 1 := Scalar.cmpi .slt v710 c0_i32_543
  let c0_i32_544 : BitVec 32 := 0#32
  let v713 : BitVec 1 := Scalar.cmpi .slt v709 c0_i32_544
  let v714 : BitVec 1 := Scalar.xori v712 v713
  let c0_i32_542 : BitVec 32 := 0#32
  let v711 : BitVec 1 := Scalar.cmpi .ne v710 c0_i32_542
  let v715 : BitVec 1 := Scalar.andi v714 v711
  let v716 : BitVec 32 := Scalar.addi v710 v709
  let v717 : BitVec 32 := Scalar.select v715 v716 v710
  let c0_i32_551 : BitVec 32 := 0#32
  let c0_i32_552 : BitVec 32 := 0#32
  ![v717.toNat, 0, 0]
def k0_off15 (d0 : Dev nD) (c1_i32_538 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_537 : BitVec 32 := 4#32
  let v706 : BitVec 32 := Scalar.addi v2 c4_i32_537
  let v707 : BitVec 32 := Scalar.subi v706 c1_i32_538
  let c4_i32_539 : BitVec 32 := 4#32
  let c0_i32_540 : BitVec 32 := 0#32
  let v708 : BitVec 1 := Scalar.cmpi .eq c4_i32_539 c0_i32_540
  let c1_i32_541 : BitVec 32 := 1#32
  let v709 : BitVec 32 := Scalar.select v708 c1_i32_541 c4_i32_539
  let v710 : BitVec 32 := Scalar.remsi v707 v709
  let c0_i32_543 : BitVec 32 := 0#32
  let v712 : BitVec 1 := Scalar.cmpi .slt v710 c0_i32_543
  let c0_i32_544 : BitVec 32 := 0#32
  let v713 : BitVec 1 := Scalar.cmpi .slt v709 c0_i32_544
  let v714 : BitVec 1 := Scalar.xori v712 v713
  let c0_i32_542 : BitVec 32 := 0#32
  let v711 : BitVec 1 := Scalar.cmpi .ne v710 c0_i32_542
  let v715 : BitVec 1 := Scalar.andi v714 v711
  let v716 : BitVec 32 := Scalar.addi v710 v709
  let v717 : BitVec 32 := Scalar.select v715 v716 v710
  let v730 : Index := Scalar.indexCast v717
  let c0_559 : Index := 0#32
  let c0_560 : Index := 0#32
  ![v730.toNat, 0, 0]
def k0_off16 (d0 : Dev nD) (c1_i32_538 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_537 : BitVec 32 := 4#32
  let v706 : BitVec 32 := Scalar.addi v2 c4_i32_537
  let v707 : BitVec 32 := Scalar.subi v706 c1_i32_538
  let c4_i32_539 : BitVec 32 := 4#32
  let c0_i32_540 : BitVec 32 := 0#32
  let v708 : BitVec 1 := Scalar.cmpi .eq c4_i32_539 c0_i32_540
  let c1_i32_541 : BitVec 32 := 1#32
  let v709 : BitVec 32 := Scalar.select v708 c1_i32_541 c4_i32_539
  let v710 : BitVec 32 := Scalar.remsi v707 v709
  let c0_i32_543 : BitVec 32 := 0#32
  let v712 : BitVec 1 := Scalar.cmpi .slt v710 c0_i32_543
  let c0_i32_544 : BitVec 32 := 0#32
  let v713 : BitVec 1 := Scalar.cmpi .slt v709 c0_i32_544
  let v714 : BitVec 1 := Scalar.xori v712 v713
  let c0_i32_542 : BitVec 32 := 0#32
  let v711 : BitVec 1 := Scalar.cmpi .ne v710 c0_i32_542
  let v715 : BitVec 1 := Scalar.andi v714 v711
  let v716 : BitVec 32 := Scalar.addi v710 v709
  let v717 : BitVec 32 := Scalar.select v715 v716 v710
  let v734 : Index := Scalar.indexCast v717
  let c0_561 : Index := 0#32
  let c0_562 : Index := 0#32
  ![v734.toNat, 0, 0]
def k0_off17 (d0 : Dev nD) (c1_i32_621 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_620 : BitVec 32 := 4#32
  let v813 : BitVec 32 := Scalar.addi v2 c4_i32_620
  let v814 : BitVec 32 := Scalar.subi v813 c1_i32_621
  let c4_i32_622 : BitVec 32 := 4#32
  let c0_i32_623 : BitVec 32 := 0#32
  let v815 : BitVec 1 := Scalar.cmpi .eq c4_i32_622 c0_i32_623
  let c1_i32_624 : BitVec 32 := 1#32
  let v816 : BitVec 32 := Scalar.select v815 c1_i32_624 c4_i32_622
  let v817 : BitVec 32 := Scalar.remsi v814 v816
  let c0_i32_626 : BitVec 32 := 0#32
  let v819 : BitVec 1 := Scalar.cmpi .slt v817 c0_i32_626
  let c0_i32_627 : BitVec 32 := 0#32
  let v820 : BitVec 1 := Scalar.cmpi .slt v816 c0_i32_627
  let v821 : BitVec 1 := Scalar.xori v819 v820
  let c0_i32_625 : BitVec 32 := 0#32
  let v818 : BitVec 1 := Scalar.cmpi .ne v817 c0_i32_625
  let v822 : BitVec 1 := Scalar.andi v821 v818
  let v823 : BitVec 32 := Scalar.addi v817 v816
  let v824 : BitVec 32 := Scalar.select v822 v823 v817
  let c128_i32_634 : BitVec 32 := 128#32
  let c0_i32_635 : BitVec 32 := 0#32
  ![v824.toNat, 128, 0]
def k0_off18 (d0 : Dev nD) (c1_i32_621 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_620 : BitVec 32 := 4#32
  let v813 : BitVec 32 := Scalar.addi v2 c4_i32_620
  let v814 : BitVec 32 := Scalar.subi v813 c1_i32_621
  let c4_i32_622 : BitVec 32 := 4#32
  let c0_i32_623 : BitVec 32 := 0#32
  let v815 : BitVec 1 := Scalar.cmpi .eq c4_i32_622 c0_i32_623
  let c1_i32_624 : BitVec 32 := 1#32
  let v816 : BitVec 32 := Scalar.select v815 c1_i32_624 c4_i32_622
  let v817 : BitVec 32 := Scalar.remsi v814 v816
  let c0_i32_626 : BitVec 32 := 0#32
  let v819 : BitVec 1 := Scalar.cmpi .slt v817 c0_i32_626
  let c0_i32_627 : BitVec 32 := 0#32
  let v820 : BitVec 1 := Scalar.cmpi .slt v816 c0_i32_627
  let v821 : BitVec 1 := Scalar.xori v819 v820
  let c0_i32_625 : BitVec 32 := 0#32
  let v818 : BitVec 1 := Scalar.cmpi .ne v817 c0_i32_625
  let v822 : BitVec 1 := Scalar.andi v821 v818
  let v823 : BitVec 32 := Scalar.addi v817 v816
  let v824 : BitVec 32 := Scalar.select v822 v823 v817
  let v832 : Index := Scalar.indexCast v824
  let c128_638 : Index := 128#32
  let c0_639 : Index := 0#32
  ![v832.toNat, 128, 0]
def k0_off19 (d0 : Dev nD) (c1_i32_692 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_691 : BitVec 32 := 4#32
  let v905 : BitVec 32 := Scalar.addi v2 c4_i32_691
  let v906 : BitVec 32 := Scalar.subi v905 c1_i32_692
  let c4_i32_693 : BitVec 32 := 4#32
  let c0_i32_694 : BitVec 32 := 0#32
  let v907 : BitVec 1 := Scalar.cmpi .eq c4_i32_693 c0_i32_694
  let c1_i32_695 : BitVec 32 := 1#32
  let v908 : BitVec 32 := Scalar.select v907 c1_i32_695 c4_i32_693
  let v909 : BitVec 32 := Scalar.remsi v906 v908
  let c0_i32_697 : BitVec 32 := 0#32
  let v911 : BitVec 1 := Scalar.cmpi .slt v909 c0_i32_697
  let c0_i32_698 : BitVec 32 := 0#32
  let v912 : BitVec 1 := Scalar.cmpi .slt v908 c0_i32_698
  let v913 : BitVec 1 := Scalar.xori v911 v912
  let c0_i32_696 : BitVec 32 := 0#32
  let v910 : BitVec 1 := Scalar.cmpi .ne v909 c0_i32_696
  let v914 : BitVec 1 := Scalar.andi v913 v910
  let v915 : BitVec 32 := Scalar.addi v909 v908
  let v916 : BitVec 32 := Scalar.select v914 v915 v909
  let c256_i32_705 : BitVec 32 := 256#32
  let c0_i32_706 : BitVec 32 := 0#32
  ![v916.toNat, 256, 0]
def k0_off20 (d0 : Dev nD) (c1_i32_692 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_691 : BitVec 32 := 4#32
  let v905 : BitVec 32 := Scalar.addi v2 c4_i32_691
  let v906 : BitVec 32 := Scalar.subi v905 c1_i32_692
  let c4_i32_693 : BitVec 32 := 4#32
  let c0_i32_694 : BitVec 32 := 0#32
  let v907 : BitVec 1 := Scalar.cmpi .eq c4_i32_693 c0_i32_694
  let c1_i32_695 : BitVec 32 := 1#32
  let v908 : BitVec 32 := Scalar.select v907 c1_i32_695 c4_i32_693
  let v909 : BitVec 32 := Scalar.remsi v906 v908
  let c0_i32_697 : BitVec 32 := 0#32
  let v911 : BitVec 1 := Scalar.cmpi .slt v909 c0_i32_697
  let c0_i32_698 : BitVec 32 := 0#32
  let v912 : BitVec 1 := Scalar.cmpi .slt v908 c0_i32_698
  let v913 : BitVec 1 := Scalar.xori v911 v912
  let c0_i32_696 : BitVec 32 := 0#32
  let v910 : BitVec 1 := Scalar.cmpi .ne v909 c0_i32_696
  let v914 : BitVec 1 := Scalar.andi v913 v910
  let v915 : BitVec 32 := Scalar.addi v909 v908
  let v916 : BitVec 32 := Scalar.select v914 v915 v909
  let v924 : Index := Scalar.indexCast v916
  let c256_709 : Index := 256#32
  let c0_710 : Index := 0#32
  ![v924.toNat, 256, 0]
def k0_off21 (d0 : Dev nD) (c1_i32_763 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_762 : BitVec 32 := 4#32
  let v997 : BitVec 32 := Scalar.addi v2 c4_i32_762
  let v998 : BitVec 32 := Scalar.subi v997 c1_i32_763
  let c4_i32_764 : BitVec 32 := 4#32
  let c0_i32_765 : BitVec 32 := 0#32
  let v999 : BitVec 1 := Scalar.cmpi .eq c4_i32_764 c0_i32_765
  let c1_i32_766 : BitVec 32 := 1#32
  let v1000 : BitVec 32 := Scalar.select v999 c1_i32_766 c4_i32_764
  let v1001 : BitVec 32 := Scalar.remsi v998 v1000
  let c0_i32_768 : BitVec 32 := 0#32
  let v1003 : BitVec 1 := Scalar.cmpi .slt v1001 c0_i32_768
  let c0_i32_769 : BitVec 32 := 0#32
  let v1004 : BitVec 1 := Scalar.cmpi .slt v1000 c0_i32_769
  let v1005 : BitVec 1 := Scalar.xori v1003 v1004
  let c0_i32_767 : BitVec 32 := 0#32
  let v1002 : BitVec 1 := Scalar.cmpi .ne v1001 c0_i32_767
  let v1006 : BitVec 1 := Scalar.andi v1005 v1002
  let v1007 : BitVec 32 := Scalar.addi v1001 v1000
  let v1008 : BitVec 32 := Scalar.select v1006 v1007 v1001
  let c384_i32_776 : BitVec 32 := 384#32
  let c0_i32_777 : BitVec 32 := 0#32
  ![v1008.toNat, 384, 0]
def k0_off22 (d0 : Dev nD) (c1_i32_763 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_762 : BitVec 32 := 4#32
  let v997 : BitVec 32 := Scalar.addi v2 c4_i32_762
  let v998 : BitVec 32 := Scalar.subi v997 c1_i32_763
  let c4_i32_764 : BitVec 32 := 4#32
  let c0_i32_765 : BitVec 32 := 0#32
  let v999 : BitVec 1 := Scalar.cmpi .eq c4_i32_764 c0_i32_765
  let c1_i32_766 : BitVec 32 := 1#32
  let v1000 : BitVec 32 := Scalar.select v999 c1_i32_766 c4_i32_764
  let v1001 : BitVec 32 := Scalar.remsi v998 v1000
  let c0_i32_768 : BitVec 32 := 0#32
  let v1003 : BitVec 1 := Scalar.cmpi .slt v1001 c0_i32_768
  let c0_i32_769 : BitVec 32 := 0#32
  let v1004 : BitVec 1 := Scalar.cmpi .slt v1000 c0_i32_769
  let v1005 : BitVec 1 := Scalar.xori v1003 v1004
  let c0_i32_767 : BitVec 32 := 0#32
  let v1002 : BitVec 1 := Scalar.cmpi .ne v1001 c0_i32_767
  let v1006 : BitVec 1 := Scalar.andi v1005 v1002
  let v1007 : BitVec 32 := Scalar.addi v1001 v1000
  let v1008 : BitVec 32 := Scalar.select v1006 v1007 v1001
  let v1016 : Index := Scalar.indexCast v1008
  let c384_780 : Index := 384#32
  let c0_781 : Index := 0#32
  ![v1016.toNat, 384, 0]
def k0_off23 (d0 : Dev nD) (c1_i32_834 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_833 : BitVec 32 := 4#32
  let v1089 : BitVec 32 := Scalar.addi v2 c4_i32_833
  let v1090 : BitVec 32 := Scalar.subi v1089 c1_i32_834
  let c4_i32_835 : BitVec 32 := 4#32
  let c0_i32_836 : BitVec 32 := 0#32
  let v1091 : BitVec 1 := Scalar.cmpi .eq c4_i32_835 c0_i32_836
  let c1_i32_837 : BitVec 32 := 1#32
  let v1092 : BitVec 32 := Scalar.select v1091 c1_i32_837 c4_i32_835
  let v1093 : BitVec 32 := Scalar.remsi v1090 v1092
  let c0_i32_839 : BitVec 32 := 0#32
  let v1095 : BitVec 1 := Scalar.cmpi .slt v1093 c0_i32_839
  let c0_i32_840 : BitVec 32 := 0#32
  let v1096 : BitVec 1 := Scalar.cmpi .slt v1092 c0_i32_840
  let v1097 : BitVec 1 := Scalar.xori v1095 v1096
  let c0_i32_838 : BitVec 32 := 0#32
  let v1094 : BitVec 1 := Scalar.cmpi .ne v1093 c0_i32_838
  let v1098 : BitVec 1 := Scalar.andi v1097 v1094
  let v1099 : BitVec 32 := Scalar.addi v1093 v1092
  let v1100 : BitVec 32 := Scalar.select v1098 v1099 v1093
  let c512_i32_847 : BitVec 32 := 512#32
  let c0_i32_848 : BitVec 32 := 0#32
  ![v1100.toNat, 512, 0]
def k0_off24 (d0 : Dev nD) (c1_i32_834 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_833 : BitVec 32 := 4#32
  let v1089 : BitVec 32 := Scalar.addi v2 c4_i32_833
  let v1090 : BitVec 32 := Scalar.subi v1089 c1_i32_834
  let c4_i32_835 : BitVec 32 := 4#32
  let c0_i32_836 : BitVec 32 := 0#32
  let v1091 : BitVec 1 := Scalar.cmpi .eq c4_i32_835 c0_i32_836
  let c1_i32_837 : BitVec 32 := 1#32
  let v1092 : BitVec 32 := Scalar.select v1091 c1_i32_837 c4_i32_835
  let v1093 : BitVec 32 := Scalar.remsi v1090 v1092
  let c0_i32_839 : BitVec 32 := 0#32
  let v1095 : BitVec 1 := Scalar.cmpi .slt v1093 c0_i32_839
  let c0_i32_840 : BitVec 32 := 0#32
  let v1096 : BitVec 1 := Scalar.cmpi .slt v1092 c0_i32_840
  let v1097 : BitVec 1 := Scalar.xori v1095 v1096
  let c0_i32_838 : BitVec 32 := 0#32
  let v1094 : BitVec 1 := Scalar.cmpi .ne v1093 c0_i32_838
  let v1098 : BitVec 1 := Scalar.andi v1097 v1094
  let v1099 : BitVec 32 := Scalar.addi v1093 v1092
  let v1100 : BitVec 32 := Scalar.select v1098 v1099 v1093
  let v1108 : Index := Scalar.indexCast v1100
  let c512_851 : Index := 512#32
  let c0_852 : Index := 0#32
  ![v1108.toNat, 512, 0]
def k0_off25 (d0 : Dev nD) (c1_i32_905 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_904 : BitVec 32 := 4#32
  let v1181 : BitVec 32 := Scalar.addi v2 c4_i32_904
  let v1182 : BitVec 32 := Scalar.subi v1181 c1_i32_905
  let c4_i32_906 : BitVec 32 := 4#32
  let c0_i32_907 : BitVec 32 := 0#32
  let v1183 : BitVec 1 := Scalar.cmpi .eq c4_i32_906 c0_i32_907
  let c1_i32_908 : BitVec 32 := 1#32
  let v1184 : BitVec 32 := Scalar.select v1183 c1_i32_908 c4_i32_906
  let v1185 : BitVec 32 := Scalar.remsi v1182 v1184
  let c0_i32_910 : BitVec 32 := 0#32
  let v1187 : BitVec 1 := Scalar.cmpi .slt v1185 c0_i32_910
  let c0_i32_911 : BitVec 32 := 0#32
  let v1188 : BitVec 1 := Scalar.cmpi .slt v1184 c0_i32_911
  let v1189 : BitVec 1 := Scalar.xori v1187 v1188
  let c0_i32_909 : BitVec 32 := 0#32
  let v1186 : BitVec 1 := Scalar.cmpi .ne v1185 c0_i32_909
  let v1190 : BitVec 1 := Scalar.andi v1189 v1186
  let v1191 : BitVec 32 := Scalar.addi v1185 v1184
  let v1192 : BitVec 32 := Scalar.select v1190 v1191 v1185
  let c640_i32_918 : BitVec 32 := 640#32
  let c0_i32_919 : BitVec 32 := 0#32
  ![v1192.toNat, 640, 0]
def k0_off26 (d0 : Dev nD) (c1_i32_905 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_904 : BitVec 32 := 4#32
  let v1181 : BitVec 32 := Scalar.addi v2 c4_i32_904
  let v1182 : BitVec 32 := Scalar.subi v1181 c1_i32_905
  let c4_i32_906 : BitVec 32 := 4#32
  let c0_i32_907 : BitVec 32 := 0#32
  let v1183 : BitVec 1 := Scalar.cmpi .eq c4_i32_906 c0_i32_907
  let c1_i32_908 : BitVec 32 := 1#32
  let v1184 : BitVec 32 := Scalar.select v1183 c1_i32_908 c4_i32_906
  let v1185 : BitVec 32 := Scalar.remsi v1182 v1184
  let c0_i32_910 : BitVec 32 := 0#32
  let v1187 : BitVec 1 := Scalar.cmpi .slt v1185 c0_i32_910
  let c0_i32_911 : BitVec 32 := 0#32
  let v1188 : BitVec 1 := Scalar.cmpi .slt v1184 c0_i32_911
  let v1189 : BitVec 1 := Scalar.xori v1187 v1188
  let c0_i32_909 : BitVec 32 := 0#32
  let v1186 : BitVec 1 := Scalar.cmpi .ne v1185 c0_i32_909
  let v1190 : BitVec 1 := Scalar.andi v1189 v1186
  let v1191 : BitVec 32 := Scalar.addi v1185 v1184
  let v1192 : BitVec 32 := Scalar.select v1190 v1191 v1185
  let v1200 : Index := Scalar.indexCast v1192
  let c640_922 : Index := 640#32
  let c0_923 : Index := 0#32
  ![v1200.toNat, 640, 0]
def k0_off27 (d0 : Dev nD) (c1_i32_976 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_975 : BitVec 32 := 4#32
  let v1273 : BitVec 32 := Scalar.addi v2 c4_i32_975
  let v1274 : BitVec 32 := Scalar.subi v1273 c1_i32_976
  let c4_i32_977 : BitVec 32 := 4#32
  let c0_i32_978 : BitVec 32 := 0#32
  let v1275 : BitVec 1 := Scalar.cmpi .eq c4_i32_977 c0_i32_978
  let c1_i32_979 : BitVec 32 := 1#32
  let v1276 : BitVec 32 := Scalar.select v1275 c1_i32_979 c4_i32_977
  let v1277 : BitVec 32 := Scalar.remsi v1274 v1276
  let c0_i32_981 : BitVec 32 := 0#32
  let v1279 : BitVec 1 := Scalar.cmpi .slt v1277 c0_i32_981
  let c0_i32_982 : BitVec 32 := 0#32
  let v1280 : BitVec 1 := Scalar.cmpi .slt v1276 c0_i32_982
  let v1281 : BitVec 1 := Scalar.xori v1279 v1280
  let c0_i32_980 : BitVec 32 := 0#32
  let v1278 : BitVec 1 := Scalar.cmpi .ne v1277 c0_i32_980
  let v1282 : BitVec 1 := Scalar.andi v1281 v1278
  let v1283 : BitVec 32 := Scalar.addi v1277 v1276
  let v1284 : BitVec 32 := Scalar.select v1282 v1283 v1277
  let c768_i32_989 : BitVec 32 := 768#32
  let c0_i32_990 : BitVec 32 := 0#32
  ![v1284.toNat, 768, 0]
def k0_off28 (d0 : Dev nD) (c1_i32_976 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_975 : BitVec 32 := 4#32
  let v1273 : BitVec 32 := Scalar.addi v2 c4_i32_975
  let v1274 : BitVec 32 := Scalar.subi v1273 c1_i32_976
  let c4_i32_977 : BitVec 32 := 4#32
  let c0_i32_978 : BitVec 32 := 0#32
  let v1275 : BitVec 1 := Scalar.cmpi .eq c4_i32_977 c0_i32_978
  let c1_i32_979 : BitVec 32 := 1#32
  let v1276 : BitVec 32 := Scalar.select v1275 c1_i32_979 c4_i32_977
  let v1277 : BitVec 32 := Scalar.remsi v1274 v1276
  let c0_i32_981 : BitVec 32 := 0#32
  let v1279 : BitVec 1 := Scalar.cmpi .slt v1277 c0_i32_981
  let c0_i32_982 : BitVec 32 := 0#32
  let v1280 : BitVec 1 := Scalar.cmpi .slt v1276 c0_i32_982
  let v1281 : BitVec 1 := Scalar.xori v1279 v1280
  let c0_i32_980 : BitVec 32 := 0#32
  let v1278 : BitVec 1 := Scalar.cmpi .ne v1277 c0_i32_980
  let v1282 : BitVec 1 := Scalar.andi v1281 v1278
  let v1283 : BitVec 32 := Scalar.addi v1277 v1276
  let v1284 : BitVec 32 := Scalar.select v1282 v1283 v1277
  let v1292 : Index := Scalar.indexCast v1284
  let c768_993 : Index := 768#32
  let c0_994 : Index := 0#32
  ![v1292.toNat, 768, 0]
def k0_off29 (d0 : Dev nD) (c1_i32_1047 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_1046 : BitVec 32 := 4#32
  let v1365 : BitVec 32 := Scalar.addi v2 c4_i32_1046
  let v1366 : BitVec 32 := Scalar.subi v1365 c1_i32_1047
  let c4_i32_1048 : BitVec 32 := 4#32
  let c0_i32_1049 : BitVec 32 := 0#32
  let v1367 : BitVec 1 := Scalar.cmpi .eq c4_i32_1048 c0_i32_1049
  let c1_i32_1050 : BitVec 32 := 1#32
  let v1368 : BitVec 32 := Scalar.select v1367 c1_i32_1050 c4_i32_1048
  let v1369 : BitVec 32 := Scalar.remsi v1366 v1368
  let c0_i32_1052 : BitVec 32 := 0#32
  let v1371 : BitVec 1 := Scalar.cmpi .slt v1369 c0_i32_1052
  let c0_i32_1053 : BitVec 32 := 0#32
  let v1372 : BitVec 1 := Scalar.cmpi .slt v1368 c0_i32_1053
  let v1373 : BitVec 1 := Scalar.xori v1371 v1372
  let c0_i32_1051 : BitVec 32 := 0#32
  let v1370 : BitVec 1 := Scalar.cmpi .ne v1369 c0_i32_1051
  let v1374 : BitVec 1 := Scalar.andi v1373 v1370
  let v1375 : BitVec 32 := Scalar.addi v1369 v1368
  let v1376 : BitVec 32 := Scalar.select v1374 v1375 v1369
  let c896_i32_1060 : BitVec 32 := 896#32
  let c0_i32_1061 : BitVec 32 := 0#32
  ![v1376.toNat, 896, 0]
def k0_off30 (d0 : Dev nD) (c1_i32_1047 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_1046 : BitVec 32 := 4#32
  let v1365 : BitVec 32 := Scalar.addi v2 c4_i32_1046
  let v1366 : BitVec 32 := Scalar.subi v1365 c1_i32_1047
  let c4_i32_1048 : BitVec 32 := 4#32
  let c0_i32_1049 : BitVec 32 := 0#32
  let v1367 : BitVec 1 := Scalar.cmpi .eq c4_i32_1048 c0_i32_1049
  let c1_i32_1050 : BitVec 32 := 1#32
  let v1368 : BitVec 32 := Scalar.select v1367 c1_i32_1050 c4_i32_1048
  let v1369 : BitVec 32 := Scalar.remsi v1366 v1368
  let c0_i32_1052 : BitVec 32 := 0#32
  let v1371 : BitVec 1 := Scalar.cmpi .slt v1369 c0_i32_1052
  let c0_i32_1053 : BitVec 32 := 0#32
  let v1372 : BitVec 1 := Scalar.cmpi .slt v1368 c0_i32_1053
  let v1373 : BitVec 1 := Scalar.xori v1371 v1372
  let c0_i32_1051 : BitVec 32 := 0#32
  let v1370 : BitVec 1 := Scalar.cmpi .ne v1369 c0_i32_1051
  let v1374 : BitVec 1 := Scalar.andi v1373 v1370
  let v1375 : BitVec 32 := Scalar.addi v1369 v1368
  let v1376 : BitVec 32 := Scalar.select v1374 v1375 v1369
  let v1384 : Index := Scalar.indexCast v1376
  let c896_1064 : Index := 896#32
  let c0_1065 : Index := 0#32
  ![v1384.toNat, 896, 0]
abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S1 : Shape := ⟨1, ![1]⟩
abbrev S1x1 : Shape := ⟨2, ![1, 1]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S4096x4096, .i8⟩
  | .hbm, ⟨1, _⟩ => ⟨S4096x2048, .i8⟩
  | .hbm, ⟨2, _⟩ => ⟨S1, .f32⟩
  | .hbm, ⟨3, _⟩ => ⟨S1, .f32⟩
  | .hbm, ⟨4, _⟩ => ⟨S4096x4096, .i32⟩
  | .hbm, ⟨5, _⟩ => ⟨S4096x4096, .f32⟩
  | .hbm, ⟨6, _⟩ => ⟨S4096x2048, .i32⟩
  | .hbm, ⟨7, _⟩ => ⟨S4096x2048, .f32⟩
  | .hbm, ⟨8, _⟩ => ⟨S4096x2048, .f32⟩
  | .hbm, ⟨9, _⟩ => ⟨S1, .f32⟩
  | .hbm, ⟨10, _⟩ => ⟨S1x1, .f32⟩
  | .hbm, ⟨11, _⟩ => ⟨S4096x2048, .f32⟩
  | .hbm, ⟨12, _⟩ => ⟨S4096x2048, .f32⟩
  | .hbm, ⟨13, _⟩ => ⟨S4096x2048, .f32⟩
  | .hbm, ⟨14, _⟩ => ⟨S4096x2048, .f32⟩
  | .hbm, ⟨15, _⟩ => ⟨S_, .f32⟩
  | .hbm, ⟨16, _⟩ => ⟨S4096x2048, .f32⟩
  | .hbm, ⟨17, _⟩ => ⟨S4096x2048, .f32⟩
  | .hbm, ⟨18, _⟩ => ⟨S4096x2048, .f32⟩
  | _, _ => ⟨S4096x4096, .i8⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Proof.KernelIdealGeometry.lean ====
/-
The geometry of the gather: which device sends to which, which rows each copy moves, and what each landing holds.

Device `c` holds a column block of `x` (`[4096, 1024]`, all rows) and the whole of `w`. It keeps the rows of `x` that
belong to it and sends to every other device the rows that belong to that one, in eight pieces of 128 rows. The piece
`k` of the device `s` lands in slot `s` of the landing buffer, at rows `128 k`.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic
public import Idealize.ShloMosaic.Lib.Pointwise

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The devices -/

/-- The device `d + 1` places after `c`: the addressee of `c`'s pieces of distance `d + 1`. -/
def peer (c : Dev nD) (d : Fin 3) : Dev nD := ⟨(c.val + d.val + 1) % 4, Nat.mod_lt _ (by decide)⟩
/-- The device `d + 1` places before `c`: the sender of the pieces of distance `d + 1` that `c` receives. -/
def src (c : Dev nD) (d : Fin 3) : Dev nD := ⟨(c.val + 3 - d.val) % 4, Nat.mod_lt _ (by decide)⟩
/-- The block of `w` that device `c` fetches as its `i`-th. -/
def wblk (c : Dev nD) (i : Fin 4) : Fin 4 := ⟨(c.val + (![0, 3, 1, 2] : Fin 4 → ℕ) i) % 4, Nat.mod_lt _ (by decide)⟩
/-- The place in that order of the block of `w` that meets the pieces of distance `d + 1`. -/
def wix : Fin 3 → Fin 4 := ![1, 3, 2]

theorem src_peer : ∀ (c : Dev nD) (d : Fin 3), src (peer c d) d = c := by decide
theorem peer_src : ∀ (c : Dev nD) (d : Fin 3), peer (src c d) d = c := by decide
theorem wblk_zero : ∀ c : Dev nD, (wblk c 0).val = c.val := by decide
theorem wblk_wix : ∀ (c : Dev nD) (d : Fin 3), (wblk c (wix d)).val = (src c d).val := by decide
theorem peer_ne : ∀ (c : Dev nD) (d : Fin 3), peer c d ≠ c := by decide
theorem src_ne : ∀ (c : Dev nD) (d : Fin 3), src c d ≠ c := by decide
/-- Three places further is one place back. -/
theorem peer_rev : ∀ (c : Dev nD) (d : Fin 3), src c d.rev = peer c d := by decide

/-! ## The offsets of the printed text -/

theorem off2_eq : ∀ (c : Dev nD) (r : Fin 4), k0_off2 c (BitVec.ofNat 32 r.val) = ![(c.val + r.val) % 4, 0, 0] := by decide +kernel
theorem off3_eq : ∀ (c : Dev nD) (r : Fin 4), k0_off3 c (BitVec.ofNat 32 r.val) = ![1024 * ((c.val + r.val) % 4), 0] := by decide +kernel
theorem off5_eq : ∀ (c : Dev nD) (d : Fin 3) (k : Fin 8),
    k0_off5 c (BitVec.ofNat 32 (1 + d.val)) (BitVec.ofNat 32 (128 * k.val)) = ![1024 * (peer c d).val + 128 * k.val, 0] := by decide +kernel
theorem off14_eq : ∀ (c : Dev nD) (d : Fin 3), k0_off14 c (BitVec.ofNat 32 (1 + d.val)) = ![(src c d).val, 0, 0] := by decide +kernel
theorem off15_eq : ∀ (c : Dev nD) (d : Fin 3), k0_off15 c (BitVec.ofNat 32 (1 + d.val)) = ![(src c d).val, 0, 0] := by decide +kernel
theorem off16_eq : ∀ (c : Dev nD) (d : Fin 3), k0_off16 c (BitVec.ofNat 32 (1 + d.val)) = ![(src c d).val, 0, 0] := by decide +kernel
theorem off17_eq : ∀ (c : Dev nD) (d : Fin 3), k0_off17 c (BitVec.ofNat 32 (1 + d.val)) = ![(src c d).val, 128, 0] := by decide +kernel
theorem off18_eq : ∀ (c : Dev nD) (d : Fin 3), k0_off18 c (BitVec.ofNat 32 (1 + d.val)) = ![(src c d).val, 128, 0] := by decide +kernel
theorem off19_eq : ∀ (c : Dev nD) (d : Fin 3), k0_off19 c (BitVec.ofNat 32 (1 + d.val)) = ![(src c d).val, 256, 0] := by decide +kernel
theorem off20_eq : ∀ (c : Dev nD) (d : Fin 3), k0_off20 c (BitVec.ofNat 32 (1 + d.val)) = ![(src c d).val, 256, 0] := by decide +kernel
theorem off21_eq : ∀ (c : Dev nD) (d : Fin 3), k0_off21 c (BitVec.ofNat 32 (1 + d.val)) = ![(src c d).val, 384, 0] := by decide +kernel
theorem off22_eq : ∀ (c : Dev nD) (d : Fin 3), k0_off22 c (BitVec.ofNat 32 (1 + d.val)) = ![(src c d).val, 384, 0] := by decide +kernel
theorem off23_eq : ∀ (c : Dev nD) (d : Fin 3), k0_off23 c (BitVec.ofNat 32 (1 + d.val)) = ![(src c d).val, 512, 0] := by decide +kernel
theorem off24_eq : ∀ (c : Dev nD) (d : Fin 3), k0_off24 c (BitVec.ofNat 32 (1 + d.val)) = ![(src c d).val, 512, 0] := by decide +kernel
theorem off25_eq : ∀ (c : Dev nD) (d : Fin 3), k0_off25 c (BitVec.ofNat 32 (1 + d.val)) = ![(src c d).val, 640, 0] := by decide +kernel
theorem off26_eq : ∀ (c : Dev nD) (d : Fin 3), k0_off26 c (BitVec.ofNat 32 (1 + d.val)) = ![(src c d).val, 640, 0] := by decide +kernel
theorem off27_eq : ∀ (c : Dev nD) (d : Fin 3), k0_off27 c (BitVec.ofNat 32 (1 + d.val)) = ![(src c d).val, 768, 0] := by decide +kernel
theorem off28_eq : ∀ (c : Dev nD) (d : Fin 3), k0_off28 c (BitVec.ofNat 32 (1 + d.val)) = ![(src c d).val, 768, 0] := by decide +kernel
theorem off29_eq : ∀ (c : Dev nD) (d : Fin 3), k0_off29 c (BitVec.ofNat 32 (1 + d.val)) = ![(src c d).val, 896, 0] := by decide +kernel
theorem off30_eq : ∀ (c : Dev nD) (d : Fin 3), k0_off30 c (BitVec.ofNat 32 (1 + d.val)) = ![(src c d).val, 896, 0] := by decide +kernel

/-! ## Bands of rows -/

/-- Rows `a … a + n` of a two-dimensional array. -/
def rows2 {n0 n1 : ℕ} (a n : ℕ) : Finset (⟨2, ![n0, n1]⟩ : Shape).Idx :=
  Finset.univ.filter fun i => a ≤ (i 0).val ∧ (i 0).val < a + n
/-- Rows `a … a + n` of slot `s` of a three-dimensional array. -/
def rows3 {n0 n1 n2 : ℕ} (s a n : ℕ) : Finset (⟨3, ![n0, n1, n2]⟩ : Shape).Idx :=
  Finset.univ.filter fun i => (i 0).val = s ∧ a ≤ (i 1).val ∧ (i 1).val < a + n

theorem mem_rows2 {n0 n1 : ℕ} {a n : ℕ} {i : (⟨2, ![n0, n1]⟩ : Shape).Idx} : i ∈ rows2 a n ↔ a ≤ (i 0).val ∧ (i 0).val < a + n := by
  unfold rows2; rw [Finset.mem_filter]; exact and_iff_right (Finset.mem_univ _)
theorem mem_rows3 {n0 n1 n2 : ℕ} {s a n : ℕ} {i : (⟨3, ![n0, n1, n2]⟩ : Shape).Idx} :
    i ∈ rows3 s a n ↔ (i 0).val = s ∧ a ≤ (i 1).val ∧ (i 1).val < a + n := by
  unfold rows3; rw [Finset.mem_filter]; exact and_iff_right (Finset.mem_univ _)

/-- A rectangle of whole rows is a band of rows. -/
theorem set_rows2 {n0 n1 : ℕ} {a n : ℕ} {off : Fin 2 → ℕ} (h : off = ![a, 0]) (inb : ∀ b, off b + (![n, n1] : Fin 2 → ℕ) b ≤ (⟨2, ![n0, n1]⟩ : Shape).size b) :
    (Rect.unit (s := ⟨2, ![n0, n1]⟩) off ![n, n1] inb).set = rows2 a n := by
  subst h
  ext i
  rw [Rect.mem_set_unit, mem_rows2]
  refine ⟨fun H => H 0, fun H b => ?_⟩
  match b with
  | ⟨0, _⟩ => exact H
  | ⟨1, _⟩ => exact ⟨Nat.zero_le _, by have := (i 1).isLt; exact (Nat.zero_add n1).symm ▸ this⟩
/-- A rectangle of whole rows of one slot is a band of rows of the slot. -/
theorem set_rows3 {n0 n1 n2 : ℕ} {s a n : ℕ} {off : Fin 3 → ℕ} (h : off = ![s, a, 0]) (inb : ∀ b, off b + (![1, n, n2] : Fin 3 → ℕ) b ≤ (⟨3, ![n0, n1, n2]⟩ : Shape).size b) :
    (Rect.unit (s := ⟨3, ![n0, n1, n2]⟩) off ![1, n, n2] inb).set = rows3 s a n := by
  subst h
  ext i
  rw [Rect.mem_set_unit, mem_rows3]
  refine ⟨fun H => ⟨?_, H 1⟩, fun H b => ?_⟩
  · obtain ⟨h1, h2⟩ := H 0
    exact Nat.le_antisymm (Nat.lt_succ_iff.mp h2) h1
  · match b with
    | ⟨0, _⟩ => exact ⟨H.1.ge, Nat.lt_succ_iff.mpr H.1.le⟩
    | ⟨1, _⟩ => exact H.2
    | ⟨2, _⟩ => exact ⟨Nat.zero_le _, by have := (i 2).isLt; exact (Nat.zero_add n2).symm ▸ this⟩

/-! ## The memrefs -/

abbrev xM : Memref sig .tc .hbm S4096x1024 .i8 := Memref.whole main_arg0
abbrev wM : Memref sig .tc .hbm S4096x2048 .i8 := Memref.whole main_arg1
abbrev oM : Memref sig .tc .vmem S1024x2048 .f32 := Memref.whole cc0_stg2_0
abbrev gM : Memref sig .tc .vmem S4x1024x1024 .i8 := Memref.whole cc0_scratch0
abbrev vM : Memref sig .tc .vmem S1024x1024 .i8 := Memref.whole cc0_scratch1
abbrev uM : Memref sig .tc .vmem S4x1024x2048 .i8 := Memref.whole cc0_scratch2

/-- A piece of 128 rows of `x`. -/
abbrev xSl (off : Fin 2 → ℕ) (inb : ∀ a, off a + S128x1024.size a ≤ S4096x1024.size a) : Memref sig .tc .hbm S128x1024 .i8 :=
  xM.slice (Rect.unit (s := S4096x1024) off S128x1024.size inb) (fun _ => rfl)
/-- A block of 1024 rows of `x`. -/
abbrev xBl (off : Fin 2 → ℕ) (inb : ∀ a, off a + S1024x1024.size a ≤ S4096x1024.size a) : Memref sig .tc .hbm S1024x1024 .i8 :=
  xM.slice (Rect.unit (s := S4096x1024) off S1024x1024.size inb) (fun _ => rfl)
/-- A block of 1024 rows of `w`. -/
abbrev wBl (off : Fin 2 → ℕ) (inb : ∀ a, off a + S1024x2048.size a ≤ S4096x2048.size a) : Memref sig .tc .hbm S1024x2048 .i8 :=
  wM.slice (Rect.unit (s := S4096x2048) off S1024x2048.size inb) (fun _ => rfl)
/-- A piece of 128 rows of one slot of the landing buffer. -/
abbrev gSl (off : Fin 3 → ℕ) (inb : ∀ a, off a + S1x128x1024.size a ≤ S4x1024x1024.size a) : Memref sig .tc .vmem S128x1024 .i8 :=
  (gM.slice (Rect.unit (s := S4x1024x1024) off S1x128x1024.size inb) (fun _ => rfl)).squeeze S128x1024 squeezes_S1x128x1024_S128x1024
/-- A slot of the buffer of `w`'s blocks. -/
abbrev uSl (off : Fin 3 → ℕ) (inb : ∀ a, off a + S1x1024x2048.size a ≤ S4x1024x2048.size a) : Memref sig .tc .vmem S1024x2048 .i8 :=
  (uM.slice (Rect.unit (s := S4x1024x2048) off S1x1024x2048.size inb) (fun _ => rfl)).squeeze S1024x2048 squeezes_S1x1024x2048_S1024x2048

section Sets
variable {a s : ℕ}

theorem xSl_set {off : Fin 2 → ℕ} {inb} (h : off = ![a, 0]) : (xSl off inb).view.set = rows2 a 128 :=
  (View.set_slice_whole main_arg0 _).trans (set_rows2 h inb)
theorem xBl_set {off : Fin 2 → ℕ} {inb} (h : off = ![a, 0]) : (xBl off inb).view.set = rows2 a 1024 :=
  (View.set_slice_whole main_arg0 _).trans (set_rows2 h inb)
theorem wBl_set {off : Fin 2 → ℕ} {inb} (h : off = ![a, 0]) : (wBl off inb).view.set = rows2 a 1024 :=
  (View.set_slice_whole main_arg1 _).trans (set_rows2 h inb)
theorem gSl_set {off : Fin 3 → ℕ} {inb} (h : off = ![s, a, 0]) : (gSl off inb).view.set = rows3 s a 128 :=
  (View.set_reshape _ _).trans ((View.set_slice_whole cc0_scratch0 _).trans (set_rows3 h inb))
theorem uSl_set {off : Fin 3 → ℕ} {inb} (h : off = ![s, 0, 0]) : (uSl off inb).view.set = rows3 s 0 1024 :=
  (View.set_reshape _ _).trans ((View.set_slice_whole cc0_scratch2 _).trans (set_rows3 h inb))

/-! Where an index of each piece lies in its buffer. -/

theorem xSl_emb {off : Fin 2 → ℕ} {inb} (h : off = ![a, 0]) (x : S128x1024.Idx) (hx : a + (x 0).val < 4096) :
    (xSl off inb).view.emb x = (ix2 ⟨a + (x 0).val, hx⟩ (x 1) : S4096x1024.Idx) := by
  subst h; funext b; apply Fin.ext
  match b with
  | ⟨0, _⟩ => show a + 1 * (x 0).val = a + (x 0).val; omega
  | ⟨1, _⟩ => show 0 + 1 * (x 1).val = (x 1).val; omega
theorem xBl_emb {off : Fin 2 → ℕ} {inb} (h : off = ![a, 0]) (x : S1024x1024.Idx) (hx : a + (x 0).val < 4096) :
    (xBl off inb).view.emb x = (ix2 ⟨a + (x 0).val, hx⟩ (x 1) : S4096x1024.Idx) := by
  subst h; funext b; apply Fin.ext
  match b with
  | ⟨0, _⟩ => show a + 1 * (x 0).val = a + (x 0).val; omega
  | ⟨1, _⟩ => show 0 + 1 * (x 1).val = (x 1).val; omega
theorem wBl_emb {off : Fin 2 → ℕ} {inb} (h : off = ![a, 0]) (x : S1024x2048.Idx) (hx : a + (x 0).val < 4096) :
    (wBl off inb).view.emb x = (ix2 ⟨a + (x 0).val, hx⟩ (x 1) : S4096x2048.Idx) := by
  subst h; funext b; apply Fin.ext
  match b with
  | ⟨0, _⟩ => show a + 1 * (x 0).val = a + (x 0).val; omega
  | ⟨1, _⟩ => show 0 + 1 * (x 1).val = (x 1).val; omega
theorem gSl_emb {off : Fin 3 → ℕ} {inb} (h : off = ![s, a, 0]) (x : S128x1024.Idx) (hs : s < 4) (hx : a + (x 0).val < 1024) :
    (gSl off inb).view.emb x = (ix3 ⟨s, hs⟩ ⟨a + (x 0).val, hx⟩ (x 1) : S4x1024x1024.Idx) := by
  subst h
  show (Rect.unit (s := S4x1024x1024) ![s, a, 0] S1x128x1024.size inb).emb (Shape.reshapeEquiv squeezes_S1x128x1024_S128x1024.numel_eq x) = _
  rw [show Shape.reshapeEquiv squeezes_S1x128x1024_S128x1024.numel_eq x = Fin.cons ⟨0, Nat.one_pos⟩ x from Shape.reshapeEquiv_cons_one _ x]
  funext b; apply Fin.ext
  match b with
  | ⟨0, _⟩ => show s + 1 * 0 = s; omega
  | ⟨1, _⟩ => show a + 1 * (x 0).val = a + (x 0).val; omega
  | ⟨2, _⟩ => show 0 + 1 * (x 1).val = (x 1).val; omega
theorem uSl_emb {off : Fin 3 → ℕ} {inb} (h : off = ![s, 0, 0]) (x : S1024x2048.Idx) (hs : s < 4) :
    (uSl off inb).view.emb x = (ix3 ⟨s, hs⟩ (x 0) (x 1) : S4x1024x2048.Idx) := by
  subst h
  show (Rect.unit (s := S4x1024x2048) ![s, 0, 0] S1x1024x2048.size inb).emb (Shape.reshapeEquiv squeezes_S1x1024x2048_S1024x2048.numel_eq x) = _
  rw [show Shape.reshapeEquiv squeezes_S1x1024x2048_S1024x2048.numel_eq x = Fin.cons ⟨0, Nat.one_pos⟩ x from Shape.reshapeEquiv_cons_one _ x]
  funext b; apply Fin.ext
  match b with
  | ⟨0, _⟩ => show s + 1 * 0 = s; omega
  | ⟨1, _⟩ => show 0 + 1 * (x 0).val = (x 0).val; omega
  | ⟨2, _⟩ => show 0 + 1 * (x 1).val = (x 1).val; omega

end Sets

/-! ## Contents -/

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-- Device `c`'s block of `x`, as it was at launch. -/
def xA (c : Dev nD) : S4096x1024.Idx → Elt F .i8 := m ((c : Thread nD τ).loc main_arg0)
/-- Device `c`'s copy of `w`. -/
def wA (c : Dev nD) : S4096x2048.Idx → Elt F .i8 := m ((c : Thread nD τ).loc main_arg1)

/-- The landing buffer of `c` once every piece is there: slot `s` holds the rows of `s`'s block of `x` that belong to `c`. -/
def landed (c : Dev nD) : S4x1024x1024.Idx → Elt F .i8 := fun i =>
  xA m ⟨(i 0).val, (i 0).isLt⟩ (ix2 ⟨1024 * c.val + (i 1).val, by have h1 : (i 1).val < 1024 := (i 1).isLt; have h2 : c.val < 4 := c.isLt; omega⟩ (i 2))
/-- The device's own rows of its own block of `x`. -/
def xvC (c : Dev nD) : S1024x1024.Idx → Elt F .i8 := fun i =>
  xA m c (ix2 ⟨1024 * c.val + (i 0).val, by have h1 : (i 0).val < 1024 := (i 0).isLt; have h2 : c.val < 4 := c.isLt; omega⟩ (i 1))
/-- The four blocks of `w`, slot `j` holding the rows `1024 j …`. -/
def wvC (c : Dev nD) : S4x1024x2048.Idx → Elt F .i8 := fun i =>
  wA m c (ix2 ⟨1024 * (i 0).val + (i 1).val, by have h1 : (i 1).val < 1024 := (i 1).isLt; have h2 : (i 0).val < 4 := (i 0).isLt; omega⟩ (i 2))

end Cert.KernelIdealProof
-- ==== Proof.KernelIdealProtocol.lean ====
/-
The protocol: for each semaphore who waits, who pays, how much, and what the wait hands over.

* the barrier semaphore of `c`: `c` waits for 3; every other device `p` pays 1 and hands over slot `c` of its own landing
  buffer, at any contents: where `c`'s pieces for `p` are to land;
* the send semaphore `(d, k)` of `c`: `c` waits; `c`'s own transfer of piece `k` to `peer c d` pays; the wait gives the
  rows of `x` back;
* the receive semaphore `(d, k)` of `c`: `c` waits; the transfer of piece `k` from `src c d` pays; the wait gives the piece
  of slot `src c d`, holding that device's rows of `x`;
* the semaphore of the copy of the own rows of `x` and the four of the copies of `w`'s blocks: `c` waits, `c`'s own copy pays;
  the wait gives the copied block and the rows it was copied from.

Every semaphore is used for one round. A device owes at launch the three units of its signals and the credit of its 24
transfers at their receivers. It waits at its barrier owing the 24 credits alone (level 2, the barrier level 1), and owes
nothing at any later wait, so no wait depends on itself.
-/
module

public import proofs.«01_k».proof.Proof.KernelIdealGeometry

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's rounds and this kernel's, whose duties are named by devices -/

abbrev UB : Type := URounds (GSem nD τ sig) (Dev nD)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-! ## The semaphores -/

/-- The runtime's barrier semaphore. -/
abbrev barS : Sem sig := (SemArray.scalar (sig.barrier 0 rfl) : Sems sig S_).sem
/-- The send semaphore of the piece `k` sent `d + 1` places on; -/
abbrev sendQ (d : Fin 3) (k : Fin 8) : DmaSem sig := cc0_scratch3.ix (ix2 d k)
/-- the receive semaphore of the piece `k` from `d + 1` places before; -/
abbrev recvQ (d : Fin 3) (k : Fin 8) : DmaSem sig := cc0_scratch4.ix (ix2 d k)
/-- the semaphore of the copy of the own rows of `x`; -/
abbrev xQ : DmaSem sig := cc0_scratch5.sem
/-- the semaphores of the copies of `w`'s blocks. -/
abbrev wQ (i : Fin 4) : DmaSem sig := cc0_scratch6.ix (ix1 i)

/-- What a semaphore is for. -/
inductive Use where
  | other | bar | send (d : Fin 3) (k : Fin 8) | recv (d : Fin 3) (k : Fin 8) | x | w (i : Fin 4)
  deriving DecidableEq

/-- The use of the DMA semaphore number `q`: the table of the printed allocation. -/
def useQ (q : DmaSem sig) : Use :=
  if q.val < 3 then .other
  else if q.val < 27 then .send ⟨(q.val - 3) / 8 % 3, Nat.mod_lt _ (by decide)⟩ ⟨(q.val - 3) % 8, Nat.mod_lt _ (by decide)⟩
  else if q.val < 51 then .recv ⟨(q.val - 27) / 8 % 3, Nat.mod_lt _ (by decide)⟩ ⟨(q.val - 27) % 8, Nat.mod_lt _ (by decide)⟩
  else if q.val < 52 then .x
  else .w ⟨(q.val - 52) % 4, Nat.mod_lt _ (by decide)⟩

def use : SemLoc sig → Use
  | .reg s => if s = barS then .bar else .other
  | .dma q => useQ q

theorem use_bar : use (.reg barS) = .bar := by unfold use; exact if_pos rfl
theorem use_send : ∀ d k, use (.dma (sendQ d k)) = .send d k := by decide
theorem use_recv : ∀ d k, use (.dma (recvQ d k)) = .recv d k := by decide
theorem use_x : use (.dma xQ) = .x := by decide
theorem use_w : ∀ i, use (.dma (wQ i)) = .w i := by decide

abbrev barCell (c : Dev nD) : GSem nD τ sig := ((c : Thread nD τ), .reg barS)
abbrev sendCell (c : Dev nD) (d : Fin 3) (k : Fin 8) : GSem nD τ sig := ((c : Thread nD τ), .dma (sendQ d k))
abbrev recvCell (c : Dev nD) (d : Fin 3) (k : Fin 8) : GSem nD τ sig := ((c : Thread nD τ), .dma (recvQ d k))
abbrev xCell (c : Dev nD) : GSem nD τ sig := ((c : Thread nD τ), .dma xQ)
abbrev wCell (c : Dev nD) (i : Fin 4) : GSem nD τ sig := ((c : Thread nD τ), .dma (wQ i))

/-! What each copy credits. -/

/-- The credit of one piece of 128 rows of `x`; -/
abbrev nP : ℕ := (gSl ![0, 0, 0] (by decide)).view.dmaCredit
/-- of the copy of the own rows of `x`; -/
abbrev nX : ℕ := (vM : Memref sig .tc .vmem S1024x1024 .i8).view.dmaCredit
/-- of a block of `w`. -/
abbrev nW : ℕ := (uSl ![0, 0, 0] (by decide)).view.dmaCredit
theorem nP_pos : 0 < nP := View.dmaCredit_pos _ (by decide)
theorem nX_pos : 0 < nX := View.dmaCredit_pos _ (by decide)
theorem nW_pos : 0 < nW := View.dmaCredit_pos _ (by decide)

/-! ## The pieces of the buffers -/

/-- The rows of `x` of device `c` that belong to device `s`, piece `k`. -/
def xPc (c s : Dev nD) (k : Fin 8) : sProp 𝕄 := ((c : Thread nD τ).loc main_arg0) ↦[rows2 (1024 * s.val + 128 * k.val) 128]{fullShare} xA m c
/-- The rows of `x` of device `c` that belong to itself. -/
def xOwn (c : Dev nD) : sProp 𝕄 := ((c : Thread nD τ).loc main_arg0) ↦[rows2 (1024 * c.val) 1024]{fullShare} xA m c
/-- The block `j` of `w` on device `c`. -/
def wPc (c : Dev nD) (j : Fin 4) : sProp 𝕄 := ((c : Thread nD τ).loc main_arg1) ↦[rows2 (1024 * j.val) 1024]{fullShare} wA m c
/-- The piece `k` of slot `s` of device `c`'s landing buffer. -/
def gPc (c s : Dev nD) (k : Fin 8) (f : Buf (Elt F) ((c : Thread nD τ).loc cc0_scratch0)) : sProp 𝕄 :=
  ((c : Thread nD τ).loc cc0_scratch0) ↦[rows3 s.val (128 * k.val) 128]{fullShare} f
/-- The buffer for the own rows of `x`. -/
def vPc (c : Dev nD) (f : Buf (Elt F) ((c : Thread nD τ).loc cc0_scratch1)) : sProp 𝕄 :=
  ((c : Thread nD τ).loc cc0_scratch1) ↦{fullShare} f
/-- The slot `j` of the buffer for `w`'s blocks. -/
def uPc (c : Dev nD) (j : Fin 4) (f : Buf (Elt F) ((c : Thread nD τ).loc cc0_scratch2)) : sProp 𝕄 :=
  ((c : Thread nD τ).loc cc0_scratch2) ↦[rows3 j.val 0 1024]{fullShare} f

section Storable
variable (c s : Dev nD) (k : Fin 8) (j : Fin 4)
instance xPc_storable : BI.Storable (upEmb : UEmb _ 𝕄) (xPc (F := F) m c s k) := by unfold xPc; infer_instance
instance xOwn_storable : BI.Storable (upEmb : UEmb _ 𝕄) (xOwn (F := F) m c) := by unfold xOwn; infer_instance
instance wPc_storable : BI.Storable (upEmb : UEmb _ 𝕄) (wPc (F := F) m c j) := by unfold wPc; infer_instance
instance gPc_storable (f) : BI.Storable (upEmb : UEmb _ 𝕄) (gPc (F := F) c s k f) := by unfold gPc; infer_instance
instance vPc_storable (f) : BI.Storable (upEmb : UEmb _ 𝕄) (vPc (F := F) c f) := by unfold vPc; infer_instance
instance uPc_storable (f) : BI.Storable (upEmb : UEmb _ 𝕄) (uPc (F := F) c j f) := by unfold uPc; infer_instance
end Storable

/-! ## The schedule -/

/-- What `p`'s signal hands `c`: slot `c` of `p`'s landing buffer. -/
def barPay (c p : Dev nD) : sProp 𝕄 := bigSep (Finset.univ : Finset (Fin 8)) fun k => iprop(∃ f, gPc p c k f)
/-- What the payment of duty `p` of a cell of device `c` hands over, by the cell's use. -/
def pay (c p : Dev nD) : Use → sProp 𝕄
  | .bar => barPay c p
  | .send d k => xPc m c (peer c d) k
  | .recv d k => gPc c (src c d) k (landed m c)
  | .x => iprop(vPc c (xvC m c) ∗ xOwn m c)
  | .w i => iprop(uPc c (wblk c i) (wvC m c) ∗ wPc m c (wblk c i))
  | .other => iprop(emp)
/-- How much a payment is, by the cell's use. -/
def amt : Use → ℕ
  | .bar => 1
  | .x => nX
  | .w _ => nW
  | _ => nP
/-- Who pays a cell of device `c`: the barrier every other device, the rest one payment, called `0`. -/
def payers (c : Dev nD) : Use → Finset (Dev nD)
  | .bar => Finset.univ.erase c
  | .other => ∅
  | _ => {0}

theorem amt_pos (u : Use) : 0 < amt u := by
  cases u <;> first | exact Nat.one_pos | exact nX_pos | exact nW_pos | exact nP_pos

instance pay_storable (c p : Dev nD) (u : Use) : BI.Storable (upEmb : UEmb _ 𝕄) (pay (F := F) m c p u) := by
  cases u <;> (unfold pay; try unfold barPay) <;> infer_instance

def sched : Rounds.Schedule (GSem nD τ sig) (Dev nD) 𝕄 where
  duties g r := if r = 0 ∧ g.1.2 = .tc then payers g.1.1 (use g.2) else ∅
  unitless _ := False
  amount g _ _ := amt (use g.2)
  payload g _ p := pay m g.1.1 p (use g.2)
  amount_pos g _ _ _ := amt_pos _

instance sched_payload_storable (g : GSem nD τ sig) (r : ℕ) (p : Dev nD) :
    BI.Storable (upEmb : UEmb _ 𝕄) ((sched (F := F) m).payload g r p) := by
  show BI.Storable upEmb (pay m g.1.1 p (use g.2)); infer_instance

theorem duties_at (c : Dev nD) (sm : SemLoc sig) : (sched (F := F) m).duties ((c : Thread nD τ), sm) 0 = payers c (use sm) := by
  dsimp only [sched]; exact if_pos ⟨rfl, rfl⟩
theorem duties_later (g : GSem nD τ sig) : ∀ r, 1 ≤ r → (sched (F := F) m).duties g r = ∅ :=
  fun r hr => by dsimp only [sched]; exact if_neg fun h => by omega
theorem payload_at (c : Dev nD) (sm : SemLoc sig) (p : Dev nD) : (sched (F := F) m).payload ((c : Thread nD τ), sm) 0 p = pay m c p (use sm) := rfl
theorem amount_at (c : Dev nD) (sm : SemLoc sig) (p : Dev nD) : (sched (F := F) m).amount ((c : Thread nD τ), sm) 0 p = amt (use sm) := rfl
theorem expect_at (c : Dev nD) (sm : SemLoc sig) : (sched (F := F) m).expect ((c : Thread nD τ), sm) 0 = (payers c (use sm)).card * amt (use sm) := by
  unfold Schedule.expect Schedule.amountOf
  rw [duties_at, Finset.sum_congr rfl fun p _ => amount_at m c sm p, Finset.sum_const, smul_eq_mul]

/-! ## What each device owes, and the levels -/

/-- The order in which the pieces are sent, received and their sends waited for. -/
def order : List (Fin 3 × Fin 8) := (List.finRange 8).flatMap fun k => [(0, k), (2, k), (1, k)]
theorem order_nodup : order.Nodup := by decide
theorem order_mem : ∀ p, p ∈ order := by decide

/-- The credits at their receivers of the pieces of a list. -/
def owedL (c : Dev nD) : List (Fin 3 × Fin 8) → CellTallies nD τ sig Unit
  | [] => 0
  | p :: l => owedL c l + tallyAt (recvCell (peer c p.1) p.1 p.2) () nP
/-- At launch: the credits of all transfers and the three signals. -/
def O₀ (c : Dev nD) : CellTallies nD τ sig Unit :=
  owedL c order + tallyAt (barCell (peer c 2)) () 1 + tallyAt (barCell (peer c 1)) () 1 + tallyAt (barCell (peer c 0)) () 1

def L (g : GSem nD τ sig) : Finset Unit := if g.1.2 = .tc then {()} else ∅
/-- Barrier cells at 1, receive cells at 2, everything else at 0. -/
def lvU : Use → ℕ
  | .bar => 1
  | .recv _ _ => 2
  | _ => 0
def lv (g : GSem nD τ sig) (_ : Unit) : ℕ := lvU (use g.2)

theorem L_of_ne (g : GSem nD τ sig) (h : g.1.2 ≠ .tc) : L g = ∅ := if_neg h
theorem L_tc (c : Dev nD) (sm : SemLoc sig) : L ((c : Thread nD τ), sm) = {()} := if_pos rfl

theorem tally_pos {g g' : GSem nD τ sig} {u : Unit} {n : ℕ} (h : 0 < tallyAt g' () n g u) : g = g' := by
  rw [tallyAt_apply] at h
  by_contra hn
  rw [if_neg (fun h' => hn h'.1)] at h
  exact Nat.lt_irrefl 0 h

theorem owedL_pos {c : Dev nD} {g : GSem nD τ sig} {u : Unit} : ∀ {l : List (Fin 3 × Fin 8)}, 0 < owedL c l g u →
    ∃ (t : Dev nD) (d : Fin 3) (k : Fin 8), g = recvCell t d k
  | [], h => absurd h (Nat.lt_irrefl 0)
  | p :: l, h => by
    unfold owedL at h
    rw [Pi.add_apply, Finsupp.add_apply] at h
    by_cases h1 : 0 < owedL c l g u
    · exact owedL_pos h1
    · exact ⟨_, _, _, tally_pos ((Nat.add_pos_iff_pos_or_pos.mp h).resolve_left h1)⟩

theorem O₀_pos {c : Dev nD} {g : GSem nD τ sig} {u : Unit} (h : 0 < O₀ c g u) :
    g.1.2 = .tc ∧ 0 < lv g u := by
  unfold O₀ at h
  rw [Pi.add_apply, Finsupp.add_apply, Pi.add_apply, Finsupp.add_apply, Pi.add_apply, Finsupp.add_apply] at h
  have hb : ∀ t : Dev nD, g = barCell t → g.1.2 = .tc ∧ 0 < lv g u := fun t e => by
    subst e; refine ⟨rfl, ?_⟩; unfold lv; rw [use_bar]; decide
  by_cases h1 : 0 < owedL c order g u
  · obtain ⟨t, d, k, rfl⟩ := owedL_pos h1
    refine ⟨rfl, ?_⟩; unfold lv; rw [use_recv]; first | exact Nat.two_pos | exact Nat.one_lt_two
  by_cases h2 : 0 < tallyAt (barCell (peer c 2)) () 1 g u
  · exact hb _ (tally_pos h2)
  by_cases h3 : 0 < tallyAt (barCell (peer c 1)) () 1 g u
  · exact hb _ (tally_pos h3)
  · exact hb _ (tally_pos (g' := barCell (peer c 0)) (n := 1) (u := u) (by omega))

theorem mem_L {g : GSem nD τ sig} (h : g.1.2 = .tc) (u : Unit) : u ∈ L g := by
  unfold L; rw [if_pos h]; exact Finset.mem_singleton_self _

/-- A wait on a staging semaphore, owing what is owed at launch or nothing. -/
theorem mayWait_stage (c : Dev nD) (q : DmaSem sig) (hq : lvU (useQ q) = 0) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => mem_L (O₀_pos hg).1 u)
      (fun p hp => by rw [Finset.mem_singleton.mp hp]; exact hq.le)
      (fun g u hg => (O₀_pos hg).2)
  · rw [MayWait_zero]; iintro -; iempintro

/-- The wait at the barrier, owing credits of transfers alone: those cells are above the barrier. -/
theorem mayWait_bar (c : Dev nD) (l : List (Fin 3 × Fin 8)) :
    (levAts L lv : sProp 𝕄) ⊢ MayWait (c : Thread nD τ) (.reg barS) () (owedL c l) :=
  MayOwe.of_cut (L := L) (lev := lv) 1 (fun p hp => by rw [Finset.mem_singleton.mp hp, L_tc]; exact Finset.mem_singleton_self _)
    (fun g u hg => by obtain ⟨t, d, k, rfl⟩ := owedL_pos hg; exact mem_L rfl u)
    (fun p hp => by rw [Finset.mem_singleton.mp hp]; exact (congrArg lvU use_bar).le)
    (fun g u hg => by obtain ⟨t, d, k, rfl⟩ := owedL_pos hg; unfold lv; rw [use_recv]; first | exact Nat.two_pos | exact Nat.one_lt_two)

/-! ## The cells, and what every device may know of them -/

/-- The kernel's own semaphores: send, receive, the copy of the own rows, the copies of `w`'s blocks. -/
abbrev Own : Type := (Fin 3 × Fin 8) ⊕ (Fin 3 × Fin 8) ⊕ Unit ⊕ Fin 4
instance ownDec : DecidableEq Own := inferInstance
instance semsDec : DecidableEq (Unit ⊕ Own) := inferInstance
def osem : Own → SemLoc sig
  | .inl p => .dma (sendQ p.1 p.2)
  | .inr (.inl p) => .dma (recvQ p.1 p.2)
  | .inr (.inr (.inl _)) => .dma xQ
  | .inr (.inr (.inr i)) => .dma (wQ i)
/-- The semaphores of a device that the protocol schedules: the barrier, then the kernel's own. -/
def csem : Unit ⊕ Own → SemLoc sig
  | .inl _ => .reg barS
  | .inr o => osem o
abbrev kcell (ci : Dev nD × (Unit ⊕ Own)) : GSem nD τ sig := ((ci.1 : Thread nD τ), csem ci.2)

theorem csem_bar : ∃ i, csem i = .reg barS := ⟨.inl (), rfl⟩
theorem csem_send (d : Fin 3) (k : Fin 8) : ∃ i, csem i = .dma (sendQ d k) := ⟨.inr (.inl (d, k)), rfl⟩
theorem csem_recv (d : Fin 3) (k : Fin 8) : ∃ i, csem i = .dma (recvQ d k) := ⟨.inr (.inr (.inl (d, k))), rfl⟩
theorem csem_x : ∃ i, csem i = .dma xQ := ⟨.inr (.inr (.inr (.inl ()))), rfl⟩
theorem csem_w (i : Fin 4) : ∃ j, csem j = .dma (wQ i) := ⟨.inr (.inr (.inr (.inr i))), rfl⟩

/-- The invariant of one cell, under some name, and that its round 0 is reached. -/
def known (g : GSem nD τ sig) : sProp 𝕄 := iprop(∃ κ : ℕ, cellInv ER (sched m) κ g ∗ reached ER g 0)
instance known_persistent (g : GSem nD τ sig) : BI.Persistent (known (F := F) m g) := by unfold known; infer_instance

/-- All cells of all devices. -/
def records : sProp 𝕄 := bigSep (Finset.univ : Finset (Dev nD × (Unit ⊕ Own))) fun ci => known m (kcell ci)
instance records_persistent : BI.Persistent (records (F := F) m) := by unfold records; infer_instance

theorem known_at (c : Dev nD) (sm : SemLoc sig) (h : ∃ i, csem i = sm) : (records m : sProp 𝕄) ⊢ known m ((c : Thread nD τ), sm) := by
  obtain ⟨i, rfl⟩ := h
  unfold records
  exact bigSep_elim (i := (c, i)) (Finset.mem_univ _)

end Cert.KernelIdealProof
-- ==== Proof.KernelIdealSteps.lean ====
/-
One lemma per kind of effect of the kernel's body: what the device holds before it, and what after it.

Each lemma has the form "if the rest of the program runs from the state after the effect, the effect and the rest run from
the state before it"; the offsets, the addressee and the semaphores are variables with their closed forms as hypotheses,
so that one lemma serves every occurrence.
-/
module

public import proofs.«01_k».proof.Proof.KernelIdealProtocol

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-- Device `c` runs `p` to a state satisfying `Q`. -/
abbrev Runs (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- What device `c` owes, whatever it waited for so far. -/
def owesAny (c : Dev nD) (O : CellTallies nD τ sig Unit) : sProp 𝕄 := iprop(∃ W, owes (c : Thread nD τ) O W)

theorem seqL_cons {I : Type} (i : I) (l : List I) (Φ : I → sProp (MT nD τ sig Unit (Elt F) ℕ UU ℕ)) :
    bigSepL (i :: l) Φ = iprop(Φ i ∗ bigSepL l Φ) := BI.bigSepL_cons i l Φ

/-! ## Landings -/

/-- What a copy leaves at its destination, known at every index the copy writes, is known on the destination's elements. -/
theorem land {κ κ' : Kind} {sp sp' : Space} {s : Shape} {e : EltTy} (v : View sig κ sp s e) (v' : View sig κ' sp' s e)
    (fs : v.ty.Contents (Elt F)) (fd g : v'.ty.Contents (Elt F))
    (h : ∀ x, g (v'.emb x) = cast (congrArg (Elt F) v'.elt_eq.symm) (v.read (Elt F) fs x)) :
    ∀ i ∈ v'.set, v'.write (Elt F) fd (v.read (Elt F) fs) Finset.univ i = g i := by
  intro i hi
  obtain ⟨x, -, rfl⟩ := Finset.mem_map.mp hi
  rw [h x]
  exact View.write_emb_of_mem _ _ (Finset.mem_univ x)

theorem land_g (c p : Dev nD) (k : Fin 8) {o₁ : Fin 2 → ℕ} {o₂ : Fin 3 → ℕ} {i₁ i₂} (h₁ : o₁ = ![1024 * p.val + 128 * k.val, 0]) (h₂ : o₂ = ![c.val, 128 * k.val, 0])
    (fd : Buf (Elt F) ((p : Thread nD τ).loc cc0_scratch0)) :
    ∀ i ∈ (gSl o₂ i₂).view.set, (gSl o₂ i₂).view.write (Elt F) fd ((xSl o₁ i₁).view.read (Elt F) (xA m c)) Finset.univ i = landed m p i :=
  land _ _ _ _ _ fun x => by
    have hx : (x 0).val < 128 := (x 0).isLt
    have hk := k.isLt
    have hp : p.val < 4 := p.isLt
    show landed m p ((gSl o₂ i₂).view.emb x) = xA m c ((xSl o₁ i₁).view.emb x)
    rw [gSl_emb h₂ x c.isLt (by omega), xSl_emb h₁ x (by omega)]
    show xA m c (ix2 ⟨1024 * p.val + (128 * k.val + (x 0).val), _⟩ (x 1)) = _
    congr 2; apply Fin.ext; exact (Nat.add_assoc _ _ _).symm

theorem land_v (c : Dev nD) {o₁ : Fin 2 → ℕ} {i₁} (h₁ : o₁ = ![1024 * c.val, 0]) (fd : Buf (Elt F) ((c : Thread nD τ).loc cc0_scratch1)) :
    ∀ i ∈ (vM : Memref sig .tc .vmem S1024x1024 .i8).view.set,
      (vM : Memref sig .tc .vmem S1024x1024 .i8).view.write (Elt F) fd ((xBl o₁ i₁).view.read (Elt F) (xA m c)) Finset.univ i = xvC m c i :=
  land _ _ _ _ _ fun x => by
    have hx : (x 0).val < 1024 := (x 0).isLt
    have hp : c.val < 4 := c.isLt
    show xvC m c x = xA m c ((xBl o₁ i₁).view.emb x)
    rw [xBl_emb h₁ x (by omega)]
    rfl

theorem land_u (c : Dev nD) (j : Fin 4) {o₁ : Fin 2 → ℕ} {o₂ : Fin 3 → ℕ} {i₁ i₂} (h₁ : o₁ = ![1024 * j.val, 0]) (h₂ : o₂ = ![j.val, 0, 0])
    (fd : Buf (Elt F) ((c : Thread nD τ).loc cc0_scratch2)) :
    ∀ i ∈ (uSl o₂ i₂).view.set, (uSl o₂ i₂).view.write (Elt F) fd ((wBl o₁ i₁).view.read (Elt F) (wA m c)) Finset.univ i = wvC m c i :=
  land _ _ _ _ _ fun x => by
    have hx : (x 0).val < 1024 := (x 0).isLt
    have hp := j.isLt
    show wvC m c ((uSl o₂ i₂).view.emb x) = wA m c ((wBl o₁ i₁).view.emb x)
    rw [uSl_emb h₂ x j.isLt, wBl_emb h₁ x (by omega)]
    rfl

/-! ## The local copies -/

/-- What the copy of the own rows of `x` takes, -/
def takeX (c : Dev nD) : sProp 𝕄 := iprop(xOwn m c ∗ (∃ f, vPc c f) ∗ dutyTok ER (xCell c) 0 (0 : Dev nD))
/-- and what the copy of the `i`-th block of `w` takes. -/
def takeW (c : Dev nD) (i : Fin 4) : sProp 𝕄 := iprop(wPc m c (wblk c i) ∗ (∃ f, uPc c (wblk c i) f) ∗ dutyTok ER (wCell c i) 0 (0 : Dev nD))

section Steps
variable (c : Dev nD) {α : Type} {Q : α → sProp (MT nD τ sig Unit (Elt F) ℕ UU ℕ)} {R D : sProp (MT nD τ sig Unit (Elt F) ℕ UU ℕ)}

theorem step_copy_x {o : Fin 2 → ℕ} {i} (h : o = ![1024 * c.val, 0])
    {hsrc : (xBl o i).view.WordExact} {hdst : (vM : Memref sig .tc .vmem S1024x1024 .i8).view.WordExact} {hsem : DmaTarget.Typed (nD := nD) .hbm (.dma xQ) (.here (p := .tc) vM)}
    {k : PUnit → Prog (TpuEff nD τ sig (Elt F) Λ₀ .tc) α}
    (hk : iprop(records m ∗ R ∗ (cred (tallyAt (xCell c) () nX) ∗ D)) ⊢ Runs c (k ⟨⟩) Q) :
    iprop(records m ∗ (takeX m c ∗ R) ∗ D) ⊢ Runs c (.op (.enqueueDma (xBl o i) (.here vM) (.dma xQ) hsrc hdst hsem) k) Q := by
  have ex : (xOwn m c : sProp 𝕄) = ((xBl o i).view.loc (c : Thread nD τ) ↦[(xBl o i).view.set]{fullShare} xA m c) := by
    rw [xBl_set h]; rfl
  have ev : ∀ f, (vPc c f : sProp 𝕄) = ((vM : Memref sig .tc .vmem S1024x1024 .i8).view.loc (c : Thread nD τ) ↦[(vM : Memref sig .tc .vmem S1024x1024 .i8).view.set]{fullShare} f) := by
    intro f; rw [View.set_whole]; rfl
  unfold takeX
  iintro ⟨#HR, ⟨⟨Hx, ⟨%f, Hv⟩, Ht⟩, HR'⟩, HD⟩
  ihave HK := (known_at m c (.dma xQ) csem_x) $$ HR
  unfold known
  icases HK with ⟨%κ, #HI, #Hr⟩
  ihave Hx := (Entails.of_eq ex) $$ Hx
  ihave Hv := (Entails.of_eq (ev f)) $$ Hv
  iapply (Rounds.wp_copy_pointsTo 𝒱₀ ER (sched m) (c : Thread nD τ) none (κ := κ) (r := 0) (d := (0 : Dev nD))
    (by rw [duties_at, use_x]; exact Finset.mem_singleton_self _) () nX rfl (by rw [amount_at, use_x]; rfl)
    (by rw [payload_at, use_x, pointsTo_congr (land_v m c h f), ← ev, ← ex]; exact .rfl)) $$ [Hx Hv Ht]
  · isplitr; · iexact HI
    isplitl [Hx]; · iexact Hx
    isplitl [Hv]; · iexact Hv
    isplitl [Ht]; · iexact Ht
    iexact Hr
  iintro Hc
  iapply hk
  isplitr; · iexact HR
  isplitl [HR']; · iexact HR'
  isplitl [Hc]; · iexact Hc
  iexact HD

theorem step_copy_w (n : Fin 4) {o₁ : Fin 2 → ℕ} {o₂ : Fin 3 → ℕ} {i₁ i₂} {q : DmaSem sig} (h₁ : o₁ = ![1024 * (wblk c n).val, 0]) (h₂ : o₂ = ![(wblk c n).val, 0, 0]) (hq : q = wQ n)
    {hsrc : (wBl o₁ i₁).view.WordExact} {hdst : (uSl o₂ i₂).view.WordExact} {hsem : DmaTarget.Typed (nD := nD) .hbm (.dma q) (.here (p := .tc) (uSl o₂ i₂))}
    {k : PUnit → Prog (TpuEff nD τ sig (Elt F) Λ₀ .tc) α}
    (hk : iprop(records m ∗ R ∗ (cred (tallyAt (wCell c n) () nW) ∗ D)) ⊢ Runs c (k ⟨⟩) Q) :
    iprop(records m ∗ (takeW m c n ∗ R) ∗ D) ⊢ Runs c (.op (.enqueueDma (wBl o₁ i₁) (.here (uSl o₂ i₂)) (.dma q) hsrc hdst hsem) k) Q := by
  subst hq
  have ex : (wPc m c (wblk c n) : sProp 𝕄) = ((wBl o₁ i₁).view.loc (c : Thread nD τ) ↦[(wBl o₁ i₁).view.set]{fullShare} wA m c) := by
    rw [wBl_set h₁]; rfl
  have ev : ∀ f, (uPc c (wblk c n) f : sProp 𝕄) = ((uSl o₂ i₂).view.loc (c : Thread nD τ) ↦[(uSl o₂ i₂).view.set]{fullShare} f) := by
    intro f; rw [uSl_set h₂]; rfl
  unfold takeW
  iintro ⟨#HR, ⟨⟨Hx, ⟨%f, Hv⟩, Ht⟩, HR'⟩, HD⟩
  ihave HK := (known_at m c (.dma (wQ n)) (csem_w n)) $$ HR
  unfold known
  icases HK with ⟨%κ, #HI, #Hr⟩
  ihave Hx := (Entails.of_eq ex) $$ Hx
  ihave Hv := (Entails.of_eq (ev f)) $$ Hv
  iapply (Rounds.wp_copy_pointsTo 𝒱₀ ER (sched m) (c : Thread nD τ) none (κ := κ) (r := 0) (d := (0 : Dev nD))
    (by rw [duties_at, use_w]; exact Finset.mem_singleton_self _) () nW rfl (by rw [amount_at, use_w]; rfl)
    (by rw [payload_at, use_w, pointsTo_congr (land_u m c (wblk c n) h₁ h₂ f), ← ev, ← ex]; exact .rfl)) $$ [Hx Hv Ht]
  · isplitr; · iexact HI
    isplitl [Hx]; · iexact Hx
    isplitl [Hv]; · iexact Hv
    isplitl [Ht]; · iexact Ht
    iexact Hr
  iintro Hc
  iapply hk
  isplitr; · iexact HR
  isplitl [HR']; · iexact HR'
  isplitl [Hc]; · iexact Hc
  iexact HD

/-! ## The barrier -/

/-- What the signal to the device `d + 1` places on takes: the right to pay it, and the slot for that device's pieces. -/
def takeSig (c : Dev nD) (d : Fin 3) : sProp 𝕄 := iprop(dutyTok ER (barCell (peer c d)) 0 c ∗ barPay (peer c d) c)

theorem step_signal (d : Fin 3) {n : Dev nD} (hn : n = peer c d) {a : ℕ} (ha : a = 1) (O : CellTallies nD τ sig Unit)
    {k : PUnit → Prog (TpuEff nD τ sig (Elt F) Λ₀ .tc) α}
    (hk : iprop(records m ∗ owesAny c O ∗ R) ⊢ Runs c (k ⟨⟩) Q) :
    iprop(records m ∗ owesAny c (O + tallyAt (barCell (peer c d)) () 1) ∗ (takeSig c d ∗ R))
      ⊢ Runs c (.op (.semSignal (n : Thread nD τ) barS a) k) Q := by
  subst hn ha
  unfold owesAny at hk ⊢
  unfold takeSig
  iintro ⟨#HR, ⟨%W, HO⟩, ⟨Ht, Hp⟩, HR'⟩
  ihave HK := (known_at m (peer c d) (.reg barS) csem_bar) $$ HR
  unfold known
  icases HK with ⟨%κ, #HI, #Hr⟩
  iapply (Rounds.wp_signal 𝒱₀ ER (sched m) (c : Thread nD τ) none (dst := (peer c d : Thread nD τ)) (κ := κ) (r := 0) (d := c)
      (by rw [duties_at, use_bar]; exact Finset.mem_erase.mpr ⟨(peer_ne c d).symm, Finset.mem_univ _⟩)
      (by rw [amount_at, use_bar]; rfl) () O rfl) $$ [HO Ht Hp]
  · isplitr; · iexact HI
    isplitl [HO]; · iexact HO
    isplitl [Ht]; · iexact Ht
    isplitl [Hp]; · rw [payload_at, use_bar]; unfold pay; iexact Hp
    iexact Hr
  iintro HO
  iapply hk
  isplitr; · iexact HR
  isplitl [HO]; · iexists W; iexact HO
  iexact HR'

/-- The barrier closed again, and in the landing buffers of the other devices the slots for the own pieces. -/
def gotBar (c : Dev nD) : sProp 𝕄 := iprop(semVal (barCell c) 0 ∗ bigSep (Finset.univ.erase c) fun p => barPay c p)

theorem bar_count (c : Dev nD) : 0 + 3 = (payers c .bar).card * amt .bar := by revert c; decide

theorem got_bar : bigSep ((sched (F := F) m).duties (barCell c) 0 \ ∅) ((sched (F := F) m).payload (barCell c) 0)
    ⊢ bigSep (Finset.univ.erase c) fun p => barPay c p := by
  rw [Finset.sdiff_empty, duties_at, use_bar]
  exact .rfl

theorem got_one (q : DmaSem sig) (hp : payers c (useQ q) = {0}) :
    bigSep ((sched (F := F) m).duties ((c : Thread nD τ), .dma q) 0 \ ∅) ((sched (F := F) m).payload ((c : Thread nD τ), .dma q) 0) ⊢ pay m c 0 (useQ q) := by
  rw [Finset.sdiff_empty, duties_at, show use (.dma q) = useQ q from rfl, hp, bigSep_singleton]
  exact .rfl

theorem step_bar {a : ℕ} (ha : a = 3) (l : List (Fin 3 × Fin 8)) {k : PUnit → Prog (TpuEff nD τ sig (Elt F) Λ₀ .tc) α}
    (hk : iprop(records m ∗ owesAny c (owedL c l) ∗ (gotBar c ∗ R)) ⊢ Runs c (k ⟨⟩) Q) :
    iprop(records m ∗ owesAny c (owedL c l) ∗ (levAts L lv ∗ cred (tallyAt (barCell c) () 3) ∗ atPos ER (barCell c) 0 ∅ 0) ∗ R)
      ⊢ Runs c (.op (.semWait barS a) k) Q := by
  subst ha
  unfold owesAny gotBar at hk
  unfold owesAny
  iintro ⟨#HR, ⟨%W, HO⟩, ⟨#Hlev, Hc, Hat⟩, HR'⟩
  ihave HK := (known_at m c (.reg barS) csem_bar) $$ HR
  unfold known
  icases HK with ⟨%κ, #HI, #Hr⟩
  iapply (Rounds.wp_wait_rest_token 𝒱₀ ER (sched m) (c : Thread nD τ) none (κ := κ)
      (wpE_semWait_eq 𝒱₀ (c : Thread nD τ) none Set.univ) (Set.mem_univ _) () (O := owedL c l) (W := W) (R := 0) (m := 0) (T := ∅)
      (by rw [expect_at, use_bar]; exact bar_count c)) $$ [Hc HO Hat]
  · isplitr; · iexact HI
    isplitl [Hc]; · iexact Hc
    isplitl [HO]; · iexact HO
    isplitr; · iapply (mayWait_bar c l); iexact Hlev
    iexact Hat
  iintro ⟨HO, Hat, -, Hpay⟩
  imod (Rounds.cell_close ER (sched m) (Set.mem_univ κ) (fun h => h) (R := 0 + 1) (duties_later m (barCell c))) $$ [Hat] with Hz
  · isplitr; · iexact HI
    iexact Hat
  iapply hk
  isplitr; · iexact HR
  isplitl [HO]; · iexists _; iexact HO
  isplitl [Hz Hpay]
  · isplitl [Hz]; · iexact Hz
    iapply (got_bar m c); iexact Hpay
  iexact HR'

/-! ## The transfers -/

/-- What the transfer of a piece takes: its rows of `x`, the slot at the receiver, and the rights to pay the two semaphores. -/
def takeSend (c : Dev nD) (p : Fin 3 × Fin 8) : sProp 𝕄 :=
  iprop(xPc m c (peer c p.1) p.2 ∗ (∃ f, gPc (peer c p.1) c p.2 f) ∗ dutyTok ER (sendCell c p.1 p.2) 0 (0 : Dev nD)
    ∗ dutyTok ER (recvCell (peer c p.1) p.1 p.2) 0 (0 : Dev nD))
/-- What it leaves: the credit for the wait on its own semaphore. -/
def credSend (c : Dev nD) (p : Fin 3 × Fin 8) : sProp 𝕄 := cred (tallyAt (sendCell c p.1 p.2) () nP)

theorem step_send (d : Fin 3) (e : Fin 8) {l l' : List (Fin 3 × Fin 8)} {n : Dev nD} (hn : n = peer c d)
    {o₁ : Fin 2 → ℕ} {o₂ : Fin 3 → ℕ} {i₁ i₂} {q₁ q₂ : DmaSem sig}
    (h₁ : o₁ = ![1024 * (peer c d).val + 128 * e.val, 0]) (h₂ : o₂ = ![c.val, 128 * e.val, 0]) (hq₁ : q₁ = sendQ d e) (hq₂ : q₂ = recvQ d e)
    {hsc : (gSl o₂ i₂ : Memref sig (Dev.tc n : Thread nD τ).2.kind .vmem S128x1024 .i8).view.ref.isScScratch = false}
    {hsrc : (xSl o₁ i₁).view.WordExact} {hdst : (gSl o₂ i₂).view.WordExact}
    {hsem : DmaTarget.Typed .hbm (.dma q₂) (.remote (Dev.tc n : Thread nD τ) (gSl o₂ i₂) (.dma q₁) hsc)}
    {k : PUnit → Prog (TpuEff nD τ sig (Elt F) Λ₀ .tc) α}
    (hk : iprop(records m ∗ owesAny c (owedL c l) ∗ bigSepL l (takeSend m c) ∗ bigSepL ((d, e) :: l') (credSend c) ∗ R) ⊢ Runs c (k ⟨⟩) Q) :
    iprop(records m ∗ owesAny c (owedL c ((d, e) :: l)) ∗ bigSepL ((d, e) :: l) (takeSend m c) ∗ bigSepL l' (credSend c) ∗ R)
      ⊢ Runs c (.op (.enqueueDma (xSl o₁ i₁) (.remote (Dev.tc n : Thread nD τ) (gSl o₂ i₂) (.dma q₁) hsc) (.dma q₂) hsrc hdst hsem) k) Q := by
  subst hn hq₁ hq₂
  have ex : (xPc m c (peer c d) e : sProp 𝕄) = ((xSl o₁ i₁).view.loc (c : Thread nD τ) ↦[(xSl o₁ i₁).view.set]{fullShare} xA m c) := by
    rw [xSl_set h₁]; rfl
  have ev : ∀ f, (gPc (peer c d) c e f : sProp 𝕄) = ((gSl o₂ i₂).view.loc (peer c d : Thread nD τ) ↦[(gSl o₂ i₂).view.set]{fullShare} f) := by
    intro f; rw [gSl_set h₂]; rfl
  rw [seqL_cons]
  rw [seqL_cons] at hk
  unfold owesAny at hk ⊢
  iintro ⟨#HR, ⟨%W, HO⟩, ⟨HT, HL⟩, HD, HR'⟩
  unfold takeSend
  icases HT with ⟨Hx, ⟨%f, Hv⟩, Ht, Ht'⟩
  ihave HK := (known_at m c (.dma (sendQ d e)) (csem_send d e)) $$ HR
  ihave HK' := (known_at m (peer c d) (.dma (recvQ d e)) (csem_recv d e)) $$ HR
  unfold known
  icases HK with ⟨%κ, #HI, #Hr⟩
  icases HK' with ⟨%κ', #HI', #Hr'⟩
  dsimp only
  ihave Hx := (Entails.of_eq ex) $$ Hx
  ihave Hv := (Entails.of_eq (ev f)) $$ Hv
  iapply (Rounds.wp_send_pointsTo 𝒱₀ ER (sched m) (c : Thread nD τ) none (κ₁ := κ) (κ₂ := κ')
    (r₁ := 0) (r₂ := 0) (d₁ := (0 : Dev nD)) (d₂ := (0 : Dev nD)) (fd := f)
    (by rw [duties_at, use_send]; exact Finset.mem_singleton_self _) (by rw [duties_at, use_recv]; exact Finset.mem_singleton_self _)
    () () nP rfl (by rw [amount_at, use_send]; rfl) (by rw [amount_at, use_recv]; rfl) (owedL c l) rfl (W := W)
    (by rw [payload_at, use_send, ← ex]; exact .rfl)
    (by rw [payload_at, use_recv, pointsTo_congr (land_g m c (peer c d) e h₁ h₂ f), ← ev]; unfold pay; dsimp only; rw [src_peer])) $$ [Hx Hv HO Ht Ht']
  · isplitr; · iexact HI
    isplitr; · iexact HI'
    isplitl [Hx]; · iexact Hx
    isplitl [Hv]; · iexact Hv
    isplitl [HO]; · iexact HO
    isplitl [Ht]; · iexact Ht
    isplitr; · iexact Hr
    isplitl [Ht']; · iexact Ht'
    iexact Hr'
  iintro ⟨Hc, HO⟩
  iapply hk
  isplitr; · iexact HR
  isplitl [HO]; · iexists W; iexact HO
  isplitl [HL]; · iexact HL
  isplitl [Hc HD]
  · isplitl [Hc]; · unfold credSend; iexact Hc
    iexact HD
  iexact HR'

/-! ## The waits -/

/-- Before the wait on a DMA semaphore of its own the device holds the credit of it and its place in it; -/
def pend (c : Dev nD) (q : DmaSem sig) (n : ℕ) : sProp 𝕄 := iprop(cred (tallyAt ((c : Thread nD τ), .dma q) () n) ∗ atPos ER ((c : Thread nD τ), .dma q) 0 ∅ 0)
/-- after it, the semaphore at zero and what the payment handed over. -/
def done (c : Dev nD) (q : DmaSem sig) : sProp 𝕄 := iprop(semVal ((c : Thread nD τ), .dma q) 0 ∗ pay m c 0 (useQ q))

/-- The wait on a DMA semaphore with one payer, owing nothing. -/
theorem step_wait (q : DmaSem sig) {q' : DmaSem sig} (hq' : q' = q) (hc : ∃ i, csem i = .dma q) (hp : payers c (useQ q) = {0}) {n : ℕ} (hn : n = amt (useQ q))
    {s s' : Shape} {e e' : EltTy} {sp sp' : Space} {sr : Memref sig .tc sp' s' e'} {ds : Memref sig .tc sp s e}
    (hd : ds.view.dmaCredit = n) {h₁ : sr.view.WordExact} {h₂ : ds.view.WordExact}
    {k : PUnit → Prog (TpuEff nD τ sig (Elt F) Λ₀ .tc) α}
    (hk : iprop(records m ∗ owesAny c 0 ∗ done m c q ∗ R) ⊢ Runs c (k ⟨⟩) Q) :
    iprop(records m ∗ owesAny c 0 ∗ pend c q n ∗ R) ⊢ Runs c (.op (.waitDma2 q' sr ds h₁ h₂) k) Q := by
  subst hq' hn
  unfold owesAny at hk ⊢
  unfold pend
  iintro ⟨#HR, ⟨%W, HO⟩, ⟨Hc, Hat⟩, HR'⟩
  ihave HK := (known_at m c (.dma q') hc) $$ HR
  unfold known
  icases HK with ⟨%κ, #HI, #Hr⟩
  iapply (Rounds.wp_wait_rest_token 𝒱₀ ER (sched m) (c : Thread nD τ) none (κ := κ) (k' := amt (useQ q'))
      (by rw [← hd]; exact wpE_waitDma2_eq 𝒱₀ (c : Thread nD τ) none Set.univ) (Set.mem_univ _) () (O := 0) (W := W) (R := 0) (m := 0) (T := ∅)
      (by rw [Nat.zero_add, expect_at, show use (.dma q') = useQ q' from rfl, hp, Finset.card_singleton, Nat.one_mul])) $$ [Hc HO Hat]
  · isplitr; · iexact HI
    isplitl [Hc]; · iexact Hc
    isplitl [HO]; · iexact HO
    isplitr; · rw [MayWait_zero]; iempintro
    iexact Hat
  iintro ⟨HO, Hat, -, Hpay⟩
  imod (Rounds.cell_close ER (sched m) (Set.mem_univ κ) (fun h => h) (R := 0 + 1) (duties_later m ((c : Thread nD τ), .dma q'))) $$ [Hat] with Hz
  · isplitr; · iexact HI
    iexact Hat
  iapply hk
  isplitr; · iexact HR
  isplitl [HO]; · iexists _; iexact HO
  isplitl [Hz Hpay]
  · unfold done
    isplitl [Hz]; · iexact Hz
    iapply (got_one m c q' hp); iexact Hpay
  iexact HR'

end Steps

end Cert.KernelIdealProof
-- ==== Proof.KernelIdealCompute.lean ====
/-
The values the kernel computes, and the steps of the second half of its body: the waits for the pieces, the loads and the
stores.
-/
module

public import proofs.«01_k».proof.Proof.KernelIdealSteps

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem useQ_send (d : Fin 3) (k : Fin 8) : useQ (sendQ d k) = .send d k := use_send d k
theorem useQ_recv (d : Fin 3) (k : Fin 8) : useQ (recvQ d k) = .recv d k := use_recv d k
theorem useQ_x : useQ xQ = .x := use_x
theorem useQ_w (i : Fin 4) : useQ (wQ i) = .w i := use_w i

/-! ## The values -/

/-- The two scales. -/
def sxC (c : Dev nD) : S1.Idx → Elt F .f32 := m ((c : Thread nD τ).loc main_arg2)
def swC (c : Dev nD) : S1.Idx → Elt F .f32 := m ((c : Thread nD τ).loc main_arg3)
/-- Their product. -/
def scal (c : Dev nD) : F .f32 := k0_pay10 (sxC m c (ix1 0)) (swC m c (ix1 0))

/-- The rows `128 e …` of the own rows of `x`; -/
def vVal (c : Dev nD) (e : Fin 8) : Vec F S128x1024 .i8 := fun i =>
  xvC m c (ix2 ⟨128 * e.val + (i 0).val, by have h : (i 0).val < 128 := (i 0).isLt; have := e.isLt; omega⟩ (i 1))
/-- the block of `w` fetched as the `n`-th; -/
def uVal (c : Dev nD) (n : Fin 4) : Vec F S1x1024x2048 .i8 := fun i => wvC m c (ix3 (wblk c n) (i 1) (i 2))
/-- the piece `e` received from the device `d + 1` places back. -/
def gVal (c : Dev nD) (d : Fin 3) (e : Fin 8) : Vec F S1x128x1024 .i8 := fun i =>
  landed m c (ix3 (src c d) ⟨128 * e.val + (i 1).val, by have h : (i 1).val < 128 := (i 1).isLt; have := e.isLt; omega⟩ (i 2))

/-- The rows `128 e …` of the result: the four partial products added in the order they are received, scaled, and
    multiplied by their logistic. -/
def outK (c : Dev nD) (e : Fin 8) : Vec F S128x2048 .f32 :=
  k0_pay13 (scal m c)
    (k0_pay12 (k0_pay11 (k0_pay1 (vVal m c e) (uVal m c 0)) (gVal m c 0 e) (uVal m c 1)) (gVal m c 2 e) (uVal m c 2))
    (gVal m c 1 e) (uVal m c 3)
/-- The result of device `c`. -/
def outC (c : Dev nD) : S1024x2048.Idx → Elt F .f32 := fun i =>
  outK m c ⟨(i 0).val / 128, by have h : (i 0).val < 1024 := (i 0).isLt; omega⟩ (ix2 ⟨(i 0).val % 128, Nat.mod_lt _ (by decide)⟩ (i 1))

/-! ## The state -/

/-- The four blocks of `w`: the first `n` of them arrived. -/
def wSt (c : Dev nD) (n : ℕ) : sProp 𝕄 := bigSep (Finset.univ : Finset (Fin 4)) fun i => if i.val < n then done m c (wQ i) else pend c (wQ i) nW
/-- The two scales in their staging buffers. -/
def scl (c : Dev nD) : sProp 𝕄 := iprop((((c : Thread nD τ).loc cc0_stg0_0) ↦{fullShare} sxC m c) ∗ (((c : Thread nD τ).loc cc0_stg1_0) ↦{fullShare} swC m c))
/-- The result's staging buffer, its first `e` row blocks written. -/
def outSt (c : Dev nD) (e : ℕ) : sProp 𝕄 :=
  iprop(∃ g : S1024x2048.Idx → Elt F .f32, ⌜∀ i, (i 0).val < 128 * e → g i = outC m c i⌝ ∗ (((c : Thread nD τ).loc cc0_stg2_0) ↦{fullShare} g))

/-- What the device holds while it computes: the pieces of `todo` outstanding, those of `got` arrived, `n` blocks of `w`
    arrived, `e` row blocks of the result written. -/
def comp (c : Dev nD) (n e : ℕ) (todo got : List (Fin 3 × Fin 8)) (R : sProp 𝕄) : sProp 𝕄 :=
  iprop(records m ∗ owesAny c 0 ∗ bigSepL todo (fun p => pend c (recvQ p.1 p.2) nP) ∗ bigSepL got (fun p => done m c (recvQ p.1 p.2))
    ∗ done m c xQ ∗ wSt m c n ∗ scl m c ∗ outSt m c e ∗ R)

/-- What a part of the state is, and that the rest gives the state back with it. -/
abbrev Holds (S A : sProp 𝕄) : Prop := S ⊢ iprop(A ∗ (A -∗ S))

section
variable (c : Dev nD) {α : Type} {Q : α → sProp (MT nD τ sig Unit (Elt F) ℕ UU ℕ)} {R : sProp (MT nD τ sig Unit (Elt F) ℕ UU ℕ)}
  {n e : ℕ} {todo got : List (Fin 3 × Fin 8)}

theorem holds_v : Holds (comp m c n e todo got R) (vPc c (xvC m c)) := by
  unfold comp done pay
  rw [useQ_x]
  dsimp only
  iintro ⟨H1, H2, H3, H4, ⟨Hz, Hv, Hx⟩, H5⟩
  isplitl [Hv]; · iexact Hv
  iintro Hv
  isplitl [H1]; · iexact H1
  isplitl [H2]; · iexact H2
  isplitl [H3]; · iexact H3
  isplitl [H4]; · iexact H4
  isplitl [Hz Hv Hx]
  · isplitl [Hz]; · iexact Hz
    isplitl [Hv]; · iexact Hv
    iexact Hx
  iexact H5

theorem split4 (Φ : Fin 4 → sProp 𝕄) (i : Fin 4) : bigSep Finset.univ Φ = iprop(Φ i ∗ bigSep (Finset.univ.erase i) Φ) := bigSep_univ_split i

theorem holds_u (i : Fin 4) (hi : i.val < n) : Holds (comp m c n e todo got R) (uPc c (wblk c i) (wvC m c)) := by
  unfold comp wSt
  rw [split4 _ i, if_pos hi]
  have hp : (done m c (wQ i) : sProp 𝕄) = iprop(semVal (wCell c i) 0 ∗ uPc c (wblk c i) (wvC m c) ∗ wPc m c (wblk c i)) := by
    unfold done pay; rw [useQ_w]
  rw [hp]
  iintro ⟨H1, H2, H3, H4, H5, ⟨⟨Hz, Hu, Hw⟩, HU⟩, H6⟩
  isplitl [Hu]; · iexact Hu
  iintro Hu
  isplitl [H1]; · iexact H1
  isplitl [H2]; · iexact H2
  isplitl [H3]; · iexact H3
  isplitl [H4]; · iexact H4
  isplitl [H5]; · iexact H5
  isplitl [Hz Hu Hw HU]
  · isplitl [Hz Hu Hw]
    · isplitl [Hz]; · iexact Hz
      isplitl [Hu]; · iexact Hu
      iexact Hw
    iexact HU
  iexact H6

theorem holds_g (d : Fin 3) (k : Fin 8) : Holds (comp m c n e todo ((d, k) :: got) R) (gPc c (src c d) k (landed m c)) := by
  unfold comp
  rw [seqL_cons]
  have hp : (done m c (recvQ d k) : sProp 𝕄) = iprop(semVal (recvCell c d k) 0 ∗ gPc c (src c d) k (landed m c)) := by
    unfold done pay; rw [useQ_recv]
  dsimp only
  rw [hp]
  iintro ⟨H1, H2, H3, ⟨⟨Hz, Hg⟩, HG⟩, H5⟩
  isplitl [Hg]; · iexact Hg
  iintro Hg
  isplitl [H1]; · iexact H1
  isplitl [H2]; · iexact H2
  isplitl [H3]; · iexact H3
  isplitl [Hz Hg HG]
  · isplitl [Hz Hg]
    · isplitl [Hz]; · iexact Hz
      iexact Hg
    iexact HG
  iexact H5

theorem holds_sx : Holds (comp m c n e todo got R) (((c : Thread nD τ).loc cc0_stg0_0) ↦{fullShare} sxC m c) := by
  unfold comp scl
  iintro ⟨H1, H2, H3, H4, H5, H6, ⟨Hx, Hw⟩, H7⟩
  isplitl [Hx]; · iexact Hx
  iintro Hx
  isplitl [H1]; · iexact H1
  isplitl [H2]; · iexact H2
  isplitl [H3]; · iexact H3
  isplitl [H4]; · iexact H4
  isplitl [H5]; · iexact H5
  isplitl [H6]; · iexact H6
  isplitl [Hx Hw]
  · isplitl [Hx]; · iexact Hx
    iexact Hw
  iexact H7

theorem holds_sw : Holds (comp m c n e todo got R) (((c : Thread nD τ).loc cc0_stg1_0) ↦{fullShare} swC m c) := by
  unfold comp scl
  iintro ⟨H1, H2, H3, H4, H5, H6, ⟨Hx, Hw⟩, H7⟩
  isplitl [Hw]; · iexact Hw
  iintro Hw
  isplitl [H1]; · iexact H1
  isplitl [H2]; · iexact H2
  isplitl [H3]; · iexact H3
  isplitl [H4]; · iexact H4
  isplitl [H5]; · iexact H5
  isplitl [H6]; · iexact H6
  isplitl [Hx Hw]
  · isplitl [Hx]; · iexact Hx
    iexact Hw
  iexact H7

/-! ## The waits -/

theorem step_wait_x {s s' : Shape} {e e' : EltTy} {sp sp' : Space} {sr : Memref sig .tc sp' s' e'} {ds : Memref sig .tc sp s e}
    {q : DmaSem sig} (hq : q = xQ) (hd : ds.view.dmaCredit = nX) {h₁ : sr.view.WordExact} {h₂ : ds.view.WordExact}
    {k : PUnit → Prog (TpuEff nD τ sig (Elt F) Λ₀ .tc) α}
    (hk : iprop(records m ∗ owesAny c 0 ∗ done m c xQ ∗ R) ⊢ Runs c (k ⟨⟩) Q) :
    iprop(records m ∗ owesAny c 0 ∗ pend c xQ nX ∗ R) ⊢ Runs c (.op (.waitDma2 q sr ds h₁ h₂) k) Q :=
  step_wait m c xQ hq csem_x (by rw [useQ_x]; rfl) (by rw [useQ_x]; rfl) hd hk

/-- The wait for the block of `w` fetched as the `i`-th. -/
theorem step_wait_w (i : Fin 4) {s s' : Shape} {b b' : EltTy} {sp sp' : Space} {sr : Memref sig .tc sp' s' b'} {ds : Memref sig .tc sp s b}
    {q : DmaSem sig} (hq : q = wQ i) (hd : ds.view.dmaCredit = nW) {h₁ : sr.view.WordExact} {h₂ : ds.view.WordExact}
    {k : PUnit → Prog (TpuEff nD τ sig (Elt F) Λ₀ .tc) α}
    (hk : comp m c (i.val + 1) e todo got R ⊢ Runs c (k ⟨⟩) Q) :
    comp m c i.val e todo got R ⊢ Runs c (.op (.waitDma2 q sr ds h₁ h₂) k) Q := by
  have hs : (wSt m c i.val : sProp 𝕄) = iprop(pend c (wQ i) nW ∗ bigSep (Finset.univ.erase i) fun j => if j.val < i.val then done m c (wQ j) else pend c (wQ j) nW) := by
    unfold wSt; rw [split4 _ i, if_neg (Nat.lt_irrefl _)]
  have hs' : (wSt m c (i.val + 1) : sProp 𝕄) = iprop(done m c (wQ i) ∗ bigSep (Finset.univ.erase i) fun j => if j.val < i.val then done m c (wQ j) else pend c (wQ j) nW) := by
    unfold wSt; rw [split4 _ i, if_pos (Nat.lt_succ_self _)]
    congr 1
    refine bigSep_congr fun j hj => ?_
    have hne : j.val ≠ i.val := fun h => (Finset.mem_erase.mp hj).1 (Fin.ext h)
    by_cases h : j.val < i.val
    · rw [if_pos h, if_pos (by omega)]
    · rw [if_neg h, if_neg (by omega)]
  refine BIBase.Entails.trans ?_ (step_wait m c (wQ i) hq (csem_w i) (by rw [useQ_w]; rfl) (n := nW) (by rw [useQ_w]; rfl) hd
    (R := iprop((bigSep (Finset.univ.erase i) fun j => if j.val < i.val then done m c (wQ j) else pend c (wQ j) nW)
      ∗ bigSepL todo (fun p => pend c (recvQ p.1 p.2) nP) ∗ bigSepL got (fun p => done m c (recvQ p.1 p.2)) ∗ done m c xQ ∗ scl m c ∗ outSt m c e ∗ R)) (BIBase.Entails.trans ?_ hk))
  · unfold comp
    rw [hs]
    iintro ⟨H1, H2, H3, H4, H5, ⟨Hp, HU⟩, H6⟩
    isplitl [H1]; · iexact H1
    isplitl [H2]; · iexact H2
    isplitl [Hp]; · iexact Hp
    isplitl [HU]; · iexact HU
    isplitl [H3]; · iexact H3
    isplitl [H4]; · iexact H4
    isplitl [H5]; · iexact H5
    iexact H6
  · unfold comp
    rw [hs']
    iintro ⟨H1, H2, Hp, HU, H3, H4, H5, H6⟩
    isplitl [H1]; · iexact H1
    isplitl [H2]; · iexact H2
    isplitl [H3]; · iexact H3
    isplitl [H4]; · iexact H4
    isplitl [H5]; · iexact H5
    isplitl [Hp HU]
    · isplitl [Hp]; · iexact Hp
      iexact HU
    iexact H6

/-- The wait for the next of a list of semaphores. -/
theorem step_wait_next (qf : Fin 3 × Fin 8 → DmaSem sig) (p : Fin 3 × Fin 8) {todo got : List (Fin 3 × Fin 8)}
    (hc : ∃ i, csem i = .dma (qf p)) (hp : payers c (useQ (qf p)) = {0}) (ha : nP = amt (useQ (qf p)))
    {s s' : Shape} {b b' : EltTy} {sp sp' : Space} {sr : Memref sig .tc sp' s' b'} {ds : Memref sig .tc sp s b}
    {q : DmaSem sig} (hq : q = qf p) (hd : ds.view.dmaCredit = nP) {h₁ : sr.view.WordExact} {h₂ : ds.view.WordExact}
    {k : PUnit → Prog (TpuEff nD τ sig (Elt F) Λ₀ .tc) α}
    (hk : iprop(records m ∗ owesAny c 0 ∗ bigSepL todo (fun p => pend c (qf p) nP) ∗ bigSepL (p :: got) (fun p => done m c (qf p)) ∗ R) ⊢ Runs c (k ⟨⟩) Q) :
    iprop(records m ∗ owesAny c 0 ∗ bigSepL (p :: todo) (fun p => pend c (qf p) nP) ∗ bigSepL got (fun p => done m c (qf p)) ∗ R)
      ⊢ Runs c (.op (.waitDma2 q sr ds h₁ h₂) k) Q := by
  rw [seqL_cons] at hk
  rw [seqL_cons]
  refine BIBase.Entails.trans ?_ (step_wait m c (qf p) hq hc hp ha hd
    (R := iprop(bigSepL todo (fun p => pend c (qf p) nP) ∗ bigSepL got (fun p => done m c (qf p)) ∗ R)) (BIBase.Entails.trans ?_ hk))
  · iintro ⟨H1, H2, ⟨Hp, HT⟩, HG⟩
    isplitl [H1]; · iexact H1
    isplitl [H2]; · iexact H2
    isplitl [Hp]; · iexact Hp
    isplitl [HT]; · iexact HT
    iexact HG
  · iintro ⟨H1, H2, Hp, HT, HG, HR⟩
    isplitl [H1]; · iexact H1
    isplitl [H2]; · iexact H2
    isplitl [HT]; · iexact HT
    isplitl [Hp HG]
    · isplitl [Hp]; · iexact Hp
      iexact HG
    iexact HR

/-- The wait for the next piece. -/
theorem step_wait_recv (d : Fin 3) (p : Fin 8) {todo got : List (Fin 3 × Fin 8)} {s s' : Shape} {b b' : EltTy} {sp sp' : Space}
    {sr : Memref sig .tc sp' s' b'} {ds : Memref sig .tc sp s b}
    {q : DmaSem sig} (hq : q = recvQ d p) (hd : ds.view.dmaCredit = nP) {h₁ : sr.view.WordExact} {h₂ : ds.view.WordExact}
    {k : PUnit → Prog (TpuEff nD τ sig (Elt F) Λ₀ .tc) α}
    (hk : comp m c n e todo ((d, p) :: got) R ⊢ Runs c (k ⟨⟩) Q) :
    comp m c n e ((d, p) :: todo) got R ⊢ Runs c (.op (.waitDma2 q sr ds h₁ h₂) k) Q :=
  step_wait_next m c (fun p => recvQ p.1 p.2) (d, p) (csem_recv d p) (by dsimp only; rw [useQ_recv]; rfl) (by dsimp only; rw [useQ_recv]; rfl) hq hd hk

/-- The wait for the next piece to have left. -/
theorem step_wait_send (d : Fin 3) (p : Fin 8) {todo got : List (Fin 3 × Fin 8)} {s s' : Shape} {b b' : EltTy} {sp sp' : Space}
    {sr : Memref sig .tc sp' s' b'} {ds : Memref sig .tc sp s b}
    {q : DmaSem sig} (hq : q = sendQ d p) (hd : ds.view.dmaCredit = nP) {h₁ : sr.view.WordExact} {h₂ : ds.view.WordExact}
    {k : PUnit → Prog (TpuEff nD τ sig (Elt F) Λ₀ .tc) α}
    (hk : iprop(records m ∗ owesAny c 0 ∗ bigSepL todo (fun p => pend c (sendQ p.1 p.2) nP) ∗ bigSepL ((d, p) :: got) (fun p => done m c (sendQ p.1 p.2)) ∗ R) ⊢ Runs c (k ⟨⟩) Q) :
    iprop(records m ∗ owesAny c 0 ∗ bigSepL ((d, p) :: todo) (fun p => pend c (sendQ p.1 p.2) nP) ∗ bigSepL got (fun p => done m c (sendQ p.1 p.2)) ∗ R)
      ⊢ Runs c (.op (.waitDma2 q sr ds h₁ h₂) k) Q :=
  step_wait_next m c (fun p => sendQ p.1 p.2) (d, p) (csem_send d p) (by dsimp only; rw [useQ_send]; rfl) (by dsimp only; rw [useQ_send]; rfl) hq hd hk

/-! ## The loads -/

/-- A load of what the state holds leaves the state and reads the value. -/
theorem step_load {cs : CoreSpace} {s : Shape} {b : EltTy} {mm : Memref sig .tc cs s b} {r : LoadRect s} {hl : mm.view.LoadsAt r} {S : sProp 𝕄}
    {I : Finset (Idx (mm.view.loc (c : Thread nD τ)))} {f : Buf (Elt F) (mm.view.loc (c : Thread nD τ))}
    (hS : Holds S (mm.view.loc (c : Thread nD τ) ↦[I]{fullShare} f)) (hI : mm.view.setOn r.set ⊆ I)
    {v : r.shape.Idx → Elt F b} (hv : mm.view.readAt (Elt F) r f = v)
    {k : (r.shape.Idx → Elt F b) → Prog (TpuEff nD τ sig (Elt F) Λ₀ .tc) α} (hk : S ⊢ Runs c (k v) Q) :
    S ⊢ Runs c (.op (.load mm r hl) k) Q := by
  subst hv
  refine hS.trans ?_
  iintro ⟨HA, HS⟩
  iapply (wp_load 𝒱₀ (c : Thread nD τ) none Set.univ (m := mm) hI) $$ HA
  iintro HA
  iapply hk
  iapply HS
  iexact HA

theorem uAcc_set {a b : ℕ} {o : Fin 3 → ℕ} (h : o = ![a, b, 0]) (i : ∀ x, o x + S1x1024x2048.size x ≤ S4x1024x2048.size x) :
    (uM : Memref sig .tc .vmem S4x1024x2048 .i8).view.setOn (Rect.unit (s := S4x1024x2048) o S1x1024x2048.size i).toLoadRect.set = rows3 a b 1024 := by
  have e := View.set_slice_whole cc0_scratch2 (Rect.unit (s := S4x1024x2048) o S1x1024x2048.size i)
  rw [View.set_slice] at e
  exact e.trans (set_rows3 h i)
theorem gAcc_set {a b : ℕ} {o : Fin 3 → ℕ} (h : o = ![a, b, 0]) (i : ∀ x, o x + S1x128x1024.size x ≤ S4x1024x1024.size x) :
    (gM : Memref sig .tc .vmem S4x1024x1024 .i8).view.setOn (Rect.unit (s := S4x1024x1024) o S1x128x1024.size i).toLoadRect.set = rows3 a b 128 := by
  have e := View.set_slice_whole cc0_scratch0 (Rect.unit (s := S4x1024x1024) o S1x128x1024.size i)
  rw [View.set_slice] at e
  exact e.trans (set_rows3 h i)

theorem step_load_v (p : Fin 8) {o : Fin 2 → ℕ} {i} (h : o = ![128 * p.val, 0])
    {hl : (vM : Memref sig .tc .vmem S1024x1024 .i8).view.LoadsAt (Rect.unit (s := S1024x1024) o S128x1024.size i).toLoadRect}
    {k : (S128x1024.Idx → Elt F .i8) → Prog (TpuEff nD τ sig (Elt F) Λ₀ .tc) α}
    (hk : comp m c n e todo got R ⊢ Runs c (k (vVal m c p)) Q) :
    comp m c n e todo got R ⊢ Runs c (.op (.load vM (Rect.unit (s := S1024x1024) o S128x1024.size i).toLoadRect hl) k) Q := by
  refine step_load c (mm := vM) (I := Finset.univ) (f := xvC m c) (holds_v m c) (Finset.subset_univ _) ?_ hk
  subst h
  funext x
  show xvC m c _ = xvC m c _
  congr 1; funext b; apply Fin.ext
  match b with
  | ⟨0, _⟩ => show 128 * p.val + 1 * (x 0).val = 128 * p.val + (x 0).val; omega
  | ⟨1, _⟩ => show 0 + 1 * (x 1).val = (x 1).val; omega

theorem step_load_u (p : Fin 4) (hp : p.val < n) {o : Fin 3 → ℕ} {i} (h : o = ![(wblk c p).val, 0, 0])
    {hl : (uM : Memref sig .tc .vmem S4x1024x2048 .i8).view.LoadsAt (Rect.unit (s := S4x1024x2048) o S1x1024x2048.size i).toLoadRect}
    {k : (S1x1024x2048.Idx → Elt F .i8) → Prog (TpuEff nD τ sig (Elt F) Λ₀ .tc) α}
    (hk : comp m c n e todo got R ⊢ Runs c (k (uVal m c p)) Q) :
    comp m c n e todo got R ⊢ Runs c (.op (.load uM (Rect.unit (s := S4x1024x2048) o S1x1024x2048.size i).toLoadRect hl) k) Q := by
  refine step_load c (mm := uM) (I := rows3 (wblk c p).val 0 1024) (f := wvC m c) (holds_u m c p hp) (uAcc_set h i).subset ?_ hk
  subst h
  funext x
  show wvC m c _ = wvC m c _
  have h0 : (x 0).val < 1 := (x 0).isLt
  congr 1; funext b; apply Fin.ext
  match b with
  | ⟨0, _⟩ => show (wblk c p).val + 1 * (x 0).val = (wblk c p).val; omega
  | ⟨1, _⟩ => show 0 + 1 * (x 1).val = (x 1).val; omega
  | ⟨2, _⟩ => show 0 + 1 * (x 2).val = (x 2).val; omega

theorem step_load_g (d : Fin 3) (p : Fin 8) {o : Fin 3 → ℕ} {i} (h : o = ![(src c d).val, 128 * p.val, 0])
    {hl : (gM : Memref sig .tc .vmem S4x1024x1024 .i8).view.LoadsAt (Rect.unit (s := S4x1024x1024) o S1x128x1024.size i).toLoadRect}
    {k : (S1x128x1024.Idx → Elt F .i8) → Prog (TpuEff nD τ sig (Elt F) Λ₀ .tc) α}
    (hk : comp m c n e todo ((d, p) :: got) R ⊢ Runs c (k (gVal m c d p)) Q) :
    comp m c n e todo ((d, p) :: got) R ⊢ Runs c (.op (.load gM (Rect.unit (s := S4x1024x1024) o S1x128x1024.size i).toLoadRect hl) k) Q := by
  refine step_load c (mm := gM) (I := rows3 (src c d).val (128 * p.val) 128) (f := landed m c) (holds_g m c d p) (gAcc_set h i).subset ?_ hk
  subst h
  funext x
  show landed m c _ = landed m c _
  have h0 : (x 0).val < 1 := (x 0).isLt
  congr 1; funext b; apply Fin.ext
  match b with
  | ⟨0, _⟩ => show (src c d).val + 1 * (x 0).val = (src c d).val; omega
  | ⟨1, _⟩ => show 128 * p.val + 1 * (x 1).val = 128 * p.val + (x 1).val; omega
  | ⟨2, _⟩ => show 0 + 1 * (x 2).val = (x 2).val; omega

theorem step_load_sx {i} {hl : (Memref.whole cc0_stg0_0 : Memref sig .tc .smem S1 .f32).view.LoadsAt (Rect.unit (s := S1) ![0] S1.size i).toLoadRect}
    {k : (S1.Idx → Elt F .f32) → Prog (TpuEff nD τ sig (Elt F) Λ₀ .tc) α}
    (hk : comp m c n e todo got R ⊢ Runs c (k fun _ => sxC m c (ix1 0)) Q) :
    comp m c n e todo got R ⊢ Runs c (.op (.load (Memref.whole cc0_stg0_0 : Memref sig .tc .smem S1 .f32) (Rect.unit (s := S1) ![0] S1.size i).toLoadRect hl) k) Q := by
  refine step_load c (mm := (Memref.whole cc0_stg0_0 : Memref sig .tc .smem S1 .f32)) (I := Finset.univ) (f := sxC m c) (holds_sx m c) (Finset.subset_univ _) ?_ hk
  funext x
  show sxC m c _ = sxC m c _
  have h0 : (x 0).val < 1 := (x 0).isLt
  congr 1; funext b; apply Fin.ext
  match b with
  | ⟨0, _⟩ => show 0 + 1 * (x 0).val = 0; omega

theorem step_load_sw {i} {hl : (Memref.whole cc0_stg1_0 : Memref sig .tc .smem S1 .f32).view.LoadsAt (Rect.unit (s := S1) ![0] S1.size i).toLoadRect}
    {k : (S1.Idx → Elt F .f32) → Prog (TpuEff nD τ sig (Elt F) Λ₀ .tc) α}
    (hk : comp m c n e todo got R ⊢ Runs c (k fun _ => swC m c (ix1 0)) Q) :
    comp m c n e todo got R ⊢ Runs c (.op (.load (Memref.whole cc0_stg1_0 : Memref sig .tc .smem S1 .f32) (Rect.unit (s := S1) ![0] S1.size i).toLoadRect hl) k) Q := by
  refine step_load c (mm := (Memref.whole cc0_stg1_0 : Memref sig .tc .smem S1 .f32)) (I := Finset.univ) (f := swC m c) (holds_sw m c) (Finset.subset_univ _) ?_ hk
  funext x
  show swC m c _ = swC m c _
  have h0 : (x 0).val < 1 := (x 0).isLt
  congr 1; funext b; apply Fin.ext
  match b with
  | ⟨0, _⟩ => show 0 + 1 * (x 0).val = 0; omega

/-! ## The result -/

/-- The load before each store reads what is never used. -/
theorem step_load_o {r : LoadRect S1024x2048} {hl : (oM : Memref sig .tc .vmem S1024x2048 .f32).view.LoadsAt r}
    {k : (r.shape.Idx → Elt F .f32) → Prog (TpuEff nD τ sig (Elt F) Λ₀ .tc) α}
    (hk : ∀ v, comp m c n e todo got R ⊢ Runs c (k v) Q) :
    comp m c n e todo got R ⊢ Runs c (.op (.load oM r hl) k) Q := by
  unfold comp outSt at hk
  unfold comp outSt
  iintro ⟨H1, H2, H3, H4, H5, H6, H7, ⟨%g, %hg, Ho⟩, HR⟩
  iapply (wp_load 𝒱₀ (c : Thread nD τ) none Set.univ (m := oM) (Finset.subset_univ _)) $$ Ho
  iintro Ho
  iapply (hk _)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [Ho]
  · iexists g
    isplitr; · ipureintro; exact hg
    iexact Ho
  iexact HR

/-- The row block written next holds the result's rows, and the rows before it still do. -/
theorem written (p : Fin 8) (g : S1024x2048.Idx → Elt F .f32) (hg : ∀ i, (i 0).val < 128 * p.val → g i = outC m c i) (i : ∀ x, (![128 * p.val, 0] : Fin 2 → ℕ) x + S128x2048.size x ≤ S1024x2048.size x) :
    ∀ j : S1024x2048.Idx, (j 0).val < 128 * (p.val + 1) →
      (View.write (Elt F) ((oM : Memref sig .tc .vmem S1024x2048 .f32).access (Rect.unit (s := S1024x2048) ![128 * p.val, 0] S128x2048.size i)) g (outK m c p) Finset.univ
        : S1024x2048.Idx → Elt F .f32) j
        = outC m c j := by
  intro j hj
  by_cases h : (j 0).val < 128 * p.val
  · rw [← hg j h]
    refine View.write_of_not_mem _ _ _ fun hm => ?_
    rw [View.setOn_univ, View.set_slice_whole, set_rows2 rfl i, mem_rows2] at hm
    omega
  · have hp := p.isLt
    let x : S128x2048.Idx := ix2 ⟨(j 0).val - 128 * p.val, by omega⟩ (j 1)
    have hx : ((oM : Memref sig .tc .vmem S1024x2048 .f32).access (Rect.unit (s := S1024x2048) ![128 * p.val, 0] S128x2048.size i)).emb x = j := by
      funext b; apply Fin.ext
      match b with
      | ⟨0, _⟩ => show 128 * p.val + 1 * ((j 0).val - 128 * p.val) = (j 0).val; omega
      | ⟨1, _⟩ => show 0 + 1 * (j 1).val = (j 1).val; omega
    refine Eq.trans (congrArg _ hx.symm) ((View.write_emb_of_mem _ _ (Finset.mem_univ x)).trans ?_)
    show outK m c p x = outC m c j
    unfold outC
    congr 1
    · congr 1; apply Fin.ext; show p.val = (j 0).val / 128; omega
    · show ix2 _ (j 1) = ix2 _ (j 1)
      congr 1; apply Fin.ext; show (j 0).val - 128 * p.val = (j 0).val % 128; omega

/-- The store of the next row block. -/
theorem step_store (p : Fin 8) {o : Fin 2 → ℕ} {i} (h : o = ![128 * p.val, 0]) {w : S128x2048.Idx → Elt F .f32} (hw : w = outK m c p)
    {hx : ((oM : Memref sig .tc .vmem S1024x2048 .f32).access (Rect.unit (s := S1024x2048) o S128x2048.size i)).Stores Finset.univ} {hm}
    {k : PUnit → Prog (TpuEff nD τ sig (Elt F) Λ₀ .tc) α}
    (hk : comp m c n (p.val + 1) todo got R ⊢ Runs c (k ⟨⟩) Q) :
    comp m c n p.val todo got R
      ⊢ Runs c (.op (.store (oM : Memref sig .tc .vmem S1024x2048 .f32) (Rect.unit (s := S1024x2048) o S128x2048.size i) w Finset.univ hx hm) k) Q := by
  subst h hw
  unfold comp outSt at hk
  unfold comp outSt
  iintro ⟨H1, H2, H3, H4, H5, H6, H7, ⟨%g, %hg, Ho⟩, HR⟩
  iapply (wp_store 𝒱₀ (c : Thread nD τ) none Set.univ (m := oM) (r := Rect.unit (s := S1024x2048) ![128 * p.val, 0] S128x2048.size i) (Mk := Finset.univ) (Finset.subset_univ _)) $$ Ho
  iintro Ho
  iapply hk
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [Ho]
  · iexists _
    isplitr
    · ipureintro
      exact written m c p g hg i
    iexact Ho
  iexact HR

/-- The same, the row block being the number of those written. -/
theorem step_store_next (he : e < 8) {o : Fin 2 → ℕ} {i} (h : o = ![128 * e, 0]) {w : S128x2048.Idx → Elt F .f32} (hw : w = outK m c ⟨e, he⟩)
    {hx : ((oM : Memref sig .tc .vmem S1024x2048 .f32).access (Rect.unit (s := S1024x2048) o S128x2048.size i)).Stores Finset.univ} {hm}
    {k : PUnit → Prog (TpuEff nD τ sig (Elt F) Λ₀ .tc) α}
    (hk : comp m c n (e + 1) todo got R ⊢ Runs c (k ⟨⟩) Q) :
    comp m c n e todo got R
      ⊢ Runs c (.op (.store (oM : Memref sig .tc .vmem S1024x2048 .f32) (Rect.unit (s := S1024x2048) o S128x2048.size i) w Finset.univ hx hm) k) Q :=
  step_store m c ⟨e, he⟩ h hw hk

end

end Cert.KernelIdealProof
-- ==== Proof.KernelIdealBody.lean ====
/-
The kernel's body, once, at a symbolic device.
-/
module

public import proofs.«01_k».proof.Proof.KernelIdealCompute

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- What the wait on the barrier takes; -/
def barHold (c : Dev nD) : sProp 𝕄 := iprop(levAts L lv ∗ cred (tallyAt (barCell c) () 3) ∗ atPos ER (barCell c) 0 ∅ 0)
/-- what the transfers take beside the granted slots; -/
def sendPre (c : Dev nD) : sProp 𝕄 := bigSep (Finset.univ : Finset (Fin 3 × Fin 8)) fun p =>
  iprop(xPc m c (peer c p.1) p.2 ∗ dutyTok ER (sendCell c p.1 p.2) 0 (0 : Dev nD) ∗ dutyTok ER (recvCell (peer c p.1) p.1 p.2) 0 (0 : Dev nD))
/-- the places in the semaphores of the device's own copies, and the receive credits; -/
def waitPre (c : Dev nD) : sProp 𝕄 :=
  iprop(atPos ER (xCell c) 0 ∅ 0 ∗ (bigSep (Finset.univ : Finset (Fin 4)) fun i => atPos ER (wCell c i) 0 ∅ 0)
    ∗ (bigSep (Finset.univ : Finset (Fin 3 × Fin 8)) fun p => pend c (recvQ p.1 p.2) nP)
    ∗ (bigSep (Finset.univ : Finset (Fin 3 × Fin 8)) fun p => atPos ER (sendCell c p.1 p.2) 0 ∅ 0))
/-- the slot of the landing buffer nobody writes. -/
def ownSlot (c : Dev nD) : sProp 𝕄 := iprop(∃ f : Buf (Elt F) ((c : Thread nD τ).loc cc0_scratch0), ((c : Thread nD τ).loc cc0_scratch0) ↦[rows3 c.val 0 1024]{fullShare} f)

/-- What device `c`'s body starts from, -/
def bodyStart (c : Dev nD) : sProp 𝕄 :=
  iprop(records m ∗ owesAny c (O₀ c) ∗ (takeX m c ∗ takeW m c 0 ∗ takeW m c 1 ∗ takeW m c 2 ∗ takeW m c 3)
    ∗ (takeSig c 0 ∗ takeSig c 1 ∗ takeSig c 2) ∗ barHold c ∗ sendPre m c ∗ waitPre c ∗ ownSlot c ∗ scl m c ∗ outSt m c 0)
/-- and what it ends with. -/
def bodyEnd (c : Dev nD) : sProp 𝕄 :=
  iprop(owesAny c 0 ∗ semVal (barCell c) 0 ∗ done m c xQ ∗ (bigSep (Finset.univ : Finset (Fin 4)) fun i => done m c (wQ i))
    ∗ (bigSep (Finset.univ : Finset (Fin 3 × Fin 8)) fun p => done m c (recvQ p.1 p.2))
    ∗ (bigSep (Finset.univ : Finset (Fin 3 × Fin 8)) fun p => done m c (sendQ p.1 p.2))
    ∗ ownSlot c ∗ scl m c ∗ outSt m c 8)

/-- What is kept through the transfers: the credits of the local copies and what the computation takes. -/
def keep (c : Dev nD) : sProp 𝕄 :=
  iprop((cred (tallyAt (wCell c 3) () nW) ∗ cred (tallyAt (wCell c 2) () nW) ∗ cred (tallyAt (wCell c 1) () nW) ∗ cred (tallyAt (wCell c 0) () nW)
    ∗ cred (tallyAt (xCell c) () nX) ∗ emp) ∗ waitPre c ∗ ownSlot c ∗ scl m c ∗ outSt m c 0)

theorem to_copies (c : Dev nD) : bodyStart m c ⊢ iprop(records m ∗ (takeX m c ∗ takeW m c 0 ∗ takeW m c 1 ∗ takeW m c 2 ∗ takeW m c 3
    ∗ owesAny c (O₀ c) ∗ (takeSig c 0 ∗ takeSig c 1 ∗ takeSig c 2) ∗ barHold c ∗ sendPre m c ∗ waitPre c ∗ ownSlot c ∗ scl m c ∗ outSt m c 0) ∗ emp) := by
  unfold bodyStart
  iintro ⟨H1, H2, ⟨HX, H0, H1', H2', H3'⟩, H4⟩
  isplitl [H1]; · iexact H1
  isplitl [HX H0 H1' H2' H3' H2 H4]
  · isplitl [HX]; · iexact HX
    isplitl [H0]; · iexact H0
    isplitl [H1']; · iexact H1'
    isplitl [H2']; · iexact H2'
    isplitl [H3']; · iexact H3'
    isplitl [H2]; · iexact H2
    iexact H4
  iempintro

theorem to_signals (c : Dev nD) {C : sProp 𝕄} : iprop(records m ∗ (owesAny c (O₀ c) ∗ (takeSig c 0 ∗ takeSig c 1 ∗ takeSig c 2) ∗ barHold c ∗ sendPre m c
      ∗ waitPre c ∗ ownSlot c ∗ scl m c ∗ outSt m c 0) ∗ C)
    ⊢ iprop(records m ∗ owesAny c (owedL c order + tallyAt (barCell (peer c 2)) () 1 + tallyAt (barCell (peer c 1)) () 1 + tallyAt (barCell (peer c 0)) () 1)
      ∗ takeSig c 0 ∗ takeSig c 1 ∗ takeSig c 2 ∗ barHold c ∗ sendPre m c ∗ C ∗ waitPre c ∗ ownSlot c ∗ scl m c ∗ outSt m c 0) := by
  iintro ⟨H1, ⟨H2, ⟨Ha, Hb, Hc⟩, H3, H4, H5⟩, H6⟩
  isplitl [H1]; · iexact H1
  isplitl [H2]; · iexact H2
  isplitl [Ha]; · iexact Ha
  isplitl [Hb]; · iexact Hb
  isplitl [Hc]; · iexact Hc
  isplitl [H3]; · iexact H3
  isplitl [H4]; · iexact H4
  isplitl [H6]; · iexact H6
  iexact H5

/-- The order, written out. -/
theorem order_eq : order = [(0, 0), (2, 0), (1, 0), (0, 1), (2, 1), (1, 1), (0, 2), (2, 2), (1, 2), (0, 3), (2, 3), (1, 3),
    (0, 4), (2, 4), (1, 4), (0, 5), (2, 5), (1, 5), (0, 6), (2, 6), (1, 6), (0, 7), (2, 7), (1, 7)] := rfl

/-- All pieces, in the order in which they are sent. -/
theorem all_pieces (Φ : Fin 3 × Fin 8 → sProp 𝕄) : bigSep Finset.univ Φ = bigSepL order Φ :=
  bigSep_univ_eq_bigSepL order (by decide) order_nodup Φ

theorem others : ∀ c : Dev nD, (Finset.univ : Finset (Dev nD)).erase c = Finset.univ.image (peer c) := by decide
theorem peer_injective : ∀ c : Dev nD, Function.Injective (peer c) := by decide

/-- The slots granted at the barrier, one for each piece to send. -/
theorem granted (c : Dev nD) : (bigSep (Finset.univ.erase c) fun p => barPay c p : sProp 𝕄)
    = bigSep (Finset.univ : Finset (Fin 3 × Fin 8)) fun p => iprop(∃ f, gPc (peer c p.1) c p.2 f) := by
  rw [others, bigSep_image_of_injOn ((peer_injective c).injOn), bigSep_univ_prod]
  rfl

theorem to_sends (c : Dev nD) {l : List (Fin 3 × Fin 8)} {R : sProp 𝕄} :
    iprop(records m ∗ owesAny c (owedL c l) ∗ (gotBar c ∗ (sendPre m c ∗ R)))
      ⊢ iprop(records m ∗ owesAny c (owedL c l) ∗ bigSepL order (takeSend m c) ∗ bigSepL [] (credSend c) ∗ (semVal (barCell c) 0 ∗ R)) := by
  have e : (iprop((bigSep (Finset.univ : Finset (Fin 3 × Fin 8)) fun p => iprop(∃ f, gPc (peer c p.1) c p.2 f)) ∗ sendPre m c) : sProp 𝕄)
      ⊢ bigSepL order (takeSend m c) := by
    rw [← all_pieces]
    refine (Entails.of_eq (bigSep_sep' _ _ _).symm).trans (bigSep_mono fun p _ => ?_)
    show iprop((∃ f, gPc (peer c p.1) c p.2 f) ∗ xPc m c (peer c p.1) p.2 ∗ dutyTok ER (sendCell c p.1 p.2) 0 (0 : Dev nD)
      ∗ dutyTok ER (recvCell (peer c p.1) p.1 p.2) 0 (0 : Dev nD)) ⊢ (takeSend m c p : sProp 𝕄)
    unfold takeSend
    iintro ⟨Hg, Hx, Hs, Hr⟩
    isplitl [Hx]; · iexact Hx
    isplitl [Hg]; · iexact Hg
    isplitl [Hs]; · iexact Hs
    iexact Hr
  unfold gotBar
  rw [granted]
  iintro ⟨H1, H2, ⟨Hz, Hg⟩, Hp, HR⟩
  isplitl [H1]; · iexact H1
  isplitl [H2]; · iexact H2
  isplitl [Hg Hp]
  · iapply e
    isplitl [Hg]; · iexact Hg
    iexact Hp
  isplitr
  · rw [bigSepL_nil]; iempintro
  isplitl [Hz]; · iexact Hz
  iexact HR

/-- The pieces in the opposite order, as the lists of what was done hold them. -/
theorem all_back {l : List (Fin 3 × Fin 8)} (h : l = order.reverse) (Φ : Fin 3 × Fin 8 → sProp 𝕄) : bigSepL l Φ = bigSep Finset.univ Φ := by
  subst h
  exact (bigSep_univ_eq_bigSepL order.reverse (by decide) (by decide) Φ).symm

/-- The sends, to be waited for, and what is not used before that. -/
def later (c : Dev nD) : sProp 𝕄 :=
  iprop((bigSep (Finset.univ : Finset (Fin 3 × Fin 8)) fun p => pend c (sendQ p.1 p.2) nP) ∗ semVal (barCell c) 0 ∗ ownSlot c)

theorem to_wait_x (c : Dev nD) {l : List (Fin 3 × Fin 8)} (h : l = order.reverse) :
    iprop(records m ∗ owesAny c (owedL c []) ∗ bigSepL [] (takeSend m c) ∗ bigSepL l (credSend c) ∗ (semVal (barCell c) 0 ∗ keep m c))
      ⊢ iprop(records m ∗ owesAny c 0 ∗ pend c xQ nX ∗ (bigSep (Finset.univ : Finset (Fin 4)) fun i => pend c (wQ i) nW)
        ∗ (bigSep (Finset.univ : Finset (Fin 3 × Fin 8)) fun p => pend c (recvQ p.1 p.2) nP) ∗ scl m c ∗ outSt m c 0 ∗ later c) := by
  have e4 : (iprop((cred (tallyAt (wCell c 3) () nW) ∗ cred (tallyAt (wCell c 2) () nW) ∗ cred (tallyAt (wCell c 1) () nW) ∗ cred (tallyAt (wCell c 0) () nW))
      ∗ bigSep (Finset.univ : Finset (Fin 4)) fun i => atPos ER (wCell c i) 0 ∅ 0) : sProp 𝕄)
      ⊢ bigSep (Finset.univ : Finset (Fin 4)) fun i => pend c (wQ i) nW := by
    unfold pend
    refine BIBase.Entails.trans ?_ (Entails.of_eq (bigSep_sep' _ _ _).symm)
    have e : (bigSep (Finset.univ : Finset (Fin 4)) fun i => cred (tallyAt (wCell c i) () nW) : sProp 𝕄)
        = iprop(cred (tallyAt (wCell c 0) () nW) ∗ cred (tallyAt (wCell c 1) () nW) ∗ cred (tallyAt (wCell c 2) () nW) ∗ cred (tallyAt (wCell c 3) () nW)) :=
      bigSep_univ_eq_bigSepL [0, 1, 2, 3] (by decide) (by decide) _
    rw [e]
    iintro ⟨⟨H3, H2, H1, H0⟩, HA⟩
    isplitr [HA]
    · isplitl [H0]; · iexact H0
      isplitl [H1]; · iexact H1
      isplitl [H2]; · iexact H2
      iexact H3
    iexact HA
  have e24 : (iprop(bigSepL l (credSend c) ∗ bigSep (Finset.univ : Finset (Fin 3 × Fin 8)) fun p => atPos ER (sendCell c p.1 p.2) 0 ∅ 0) : sProp 𝕄)
      ⊢ bigSep (Finset.univ : Finset (Fin 3 × Fin 8)) fun p => pend c (sendQ p.1 p.2) nP := by
    rw [all_back h]
    exact Entails.of_eq (bigSep_sep' _ _ _).symm
  unfold keep waitPre later
  iintro ⟨H1, H2, -, HS, HB, ⟨C3, C2, C1, C0, CX, -⟩, ⟨AX, AW, HR, AS⟩, HO, HC, HT⟩
  isplitl [H1]; · iexact H1
  isplitl [H2]; · iexact H2
  isplitl [CX AX]
  · unfold pend
    isplitl [CX]; · iexact CX
    iexact AX
  isplitl [C3 C2 C1 C0 AW]
  · iapply e4
    isplitr [AW]
    · isplitl [C3]; · iexact C3
      isplitl [C2]; · iexact C2
      isplitl [C1]; · iexact C1
      iexact C0
    iexact AW
  isplitl [HR]; · iexact HR
  isplitl [HC]; · iexact HC
  isplitl [HT]; · iexact HT
  isplitl [HS AS]
  · iapply e24
    isplitl [HS]; · iexact HS
    iexact AS
  isplitl [HB]; · iexact HB
  iexact HO

theorem wSt_none (c : Dev nD) : (wSt m c 0 : sProp 𝕄) = bigSep (Finset.univ : Finset (Fin 4)) fun i => pend c (wQ i) nW :=
  bigSep_congr fun i _ => if_neg (Nat.not_lt_zero _)
theorem wSt_all (c : Dev nD) : (wSt m c 4 : sProp 𝕄) = bigSep (Finset.univ : Finset (Fin 4)) fun i => done m c (wQ i) :=
  bigSep_congr fun i _ => if_pos i.isLt

theorem to_comp (c : Dev nD) :
    iprop(records m ∗ owesAny c 0 ∗ done m c xQ ∗ (bigSep (Finset.univ : Finset (Fin 4)) fun i => pend c (wQ i) nW)
        ∗ (bigSep (Finset.univ : Finset (Fin 3 × Fin 8)) fun p => pend c (recvQ p.1 p.2) nP) ∗ scl m c ∗ outSt m c 0 ∗ later c)
      ⊢ comp m c 0 0 order [] (later c) := by
  unfold comp
  rw [wSt_none, all_pieces]
  iintro ⟨H1, H2, HX, HW, HR, HC, HT, HL⟩
  isplitl [H1]; · iexact H1
  isplitl [H2]; · iexact H2
  isplitl [HR]; · iexact HR
  isplitr
  · rw [bigSepL_nil]; iempintro
  isplitl [HX]; · iexact HX
  isplitl [HW]; · iexact HW
  isplitl [HC]; · iexact HC
  isplitl [HT]; · iexact HT
  iexact HL

/-- What is kept while the sends are waited for. -/
def result (c : Dev nD) : sProp 𝕄 :=
  iprop(semVal (barCell c) 0 ∗ done m c xQ ∗ (bigSep (Finset.univ : Finset (Fin 4)) fun i => done m c (wQ i))
    ∗ (bigSep (Finset.univ : Finset (Fin 3 × Fin 8)) fun p => done m c (recvQ p.1 p.2)) ∗ ownSlot c ∗ scl m c ∗ outSt m c 8)

theorem to_wait_sends (c : Dev nD) {l : List (Fin 3 × Fin 8)} (h : l = order.reverse) :
    comp m c 4 8 [] l (later c)
      ⊢ iprop(records m ∗ owesAny c 0 ∗ bigSepL order (fun p : Fin 3 × Fin 8 => pend c (sendQ p.1 p.2) nP) ∗ bigSepL [] (fun p : Fin 3 × Fin 8 => done m c (sendQ p.1 p.2)) ∗ result m c) := by
  unfold comp later result
  rw [wSt_all, all_back h, ← all_pieces]
  iintro ⟨H1, H2, -, HG, HX, HW, HC, HT, HS, HB, HO⟩
  isplitl [H1]; · iexact H1
  isplitl [H2]; · iexact H2
  isplitl [HS]; · iexact HS
  isplitr
  · rw [bigSepL_nil]; iempintro
  isplitl [HB]; · iexact HB
  isplitl [HX]; · iexact HX
  isplitl [HW]; · iexact HW
  isplitl [HG]; · iexact HG
  isplitl [HO]; · iexact HO
  isplitl [HC]; · iexact HC
  iexact HT

theorem to_end (c : Dev nD) {l : List (Fin 3 × Fin 8)} (h : l = order.reverse) :
    iprop(records m ∗ owesAny c 0 ∗ bigSepL [] (fun p : Fin 3 × Fin 8 => pend c (sendQ p.1 p.2) nP) ∗ bigSepL l (fun p : Fin 3 × Fin 8 => done m c (sendQ p.1 p.2)) ∗ result m c)
      ⊢ bodyEnd m c := by
  unfold result bodyEnd
  rw [all_back h]
  iintro ⟨-, H2, -, HS, HB, HX, HW, HG, HO, HC, HT⟩
  isplitl [H2]; · iexact H2
  isplitl [HB]; · iexact HB
  isplitl [HX]; · iexact HX
  isplitl [HW]; · iexact HW
  isplitl [HG]; · iexact HG
  isplitl [HS]; · iexact HS
  isplitl [HO]; · iexact HO
  isplitl [HC]; · iexact HC
  iexact HT

abbrev theBody : Prog (TpuEff nD τ sig (Elt F) Λ₀ .tc) PUnit :=
  cc0_body (F := F) xM (Memref.isWhole_whole _) wM (Memref.isWhole_whole _) (Memref.whole cc0_stg0_0) (Memref.isWhole_whole _)
    (Memref.whole cc0_stg1_0) (Memref.isWhole_whole _) (Memref.whole cc0_stg2_0) (Memref.isWhole_whole _) gM (Memref.isWhole_whole _) vM (Memref.isWhole_whole _)
    uM (Memref.isWhole_whole _) cc0_scratch3 cc0_scratch4 cc0_scratch5 cc0_scratch6

set_option maxHeartbeats 4000000 in
set_option maxRecDepth 65536 in
theorem body_runs (c : Dev nD) : bodyStart m c ⊢ Runs c (theBody (F := F)) (fun _ => bodyEnd m c) := by
  rw [theBody, cc0_body_eq_skeleton]
  unfold cc0_body_skel
  rw [k0_part1_eq_skeleton, k0_part2_eq_skeleton, k0_part3_eq_skeleton, k0_part4_eq_skeleton]
  unfold k0_part1_skel k0_part2_skel k0_part3_skel k0_part4_skel
  simp only [semSignalWord, semWaitWord, Prog.lift, Prog.bind_op, Prog.bind_ret, Prog.pure_eq_ret, wp_deviceId]
  refine (to_copies m c).trans ?_
  refine step_copy_x m c (by decide +revert +kernel) ?_
  refine step_copy_w m c 0 (by decide +revert +kernel) (by decide +revert +kernel) (by rfl) ?_
  refine step_copy_w m c 1 (by decide +revert +kernel) (by decide +revert +kernel) (by rfl) ?_
  refine step_copy_w m c 2 (by decide +revert +kernel) (by decide +revert +kernel) (by rfl) ?_
  refine step_copy_w m c 3 (by decide +revert +kernel) (by decide +revert +kernel) (by rfl) ?_
  refine (to_signals m c).trans ?_
  refine step_signal m c 0 (by decide +revert +kernel) rfl _ ?_
  refine step_signal m c 1 (by decide +revert +kernel) rfl _ ?_
  refine step_signal m c 2 (by decide +revert +kernel) rfl _ ?_
  refine step_bar m c rfl _ ?_
  refine (to_sends m c).trans ?_
  rw [order_eq]
  rw [k0_part5_eq_skeleton, k0_part6_eq_skeleton, k0_part7_eq_skeleton, k0_part8_eq_skeleton, k0_part9_eq_skeleton, k0_part10_eq_skeleton,
    k0_part11_eq_skeleton, k0_part12_eq_skeleton, k0_part13_eq_skeleton, k0_part14_eq_skeleton, k0_part15_eq_skeleton, k0_part16_eq_skeleton,
    k0_part17_eq_skeleton, k0_part18_eq_skeleton, k0_part19_eq_skeleton, k0_part20_eq_skeleton]
  unfold k0_part5_skel k0_part6_skel k0_part7_skel k0_part8_skel k0_part9_skel k0_part10_skel k0_part11_skel k0_part12_skel k0_part13_skel
    k0_part14_skel k0_part15_skel k0_part16_skel k0_part17_skel k0_part18_skel k0_part19_skel k0_part20_skel
  simp only [Prog.lift, Prog.bind_op, Prog.bind_ret, Prog.pure_eq_ret]
  iterate 24 refine step_send m c _ _ (by decide +revert +kernel) (by decide +revert +kernel) (by decide +revert +kernel) (by rfl) (by rfl) ?_
  refine (to_wait_x m c (by rfl)).trans ?_
  refine step_wait_x m c (by rfl) (by rfl) ?_
  refine (to_comp m c).trans ?_
  rw [order_eq]
  rw [k0_part21_eq_skeleton, k0_part22_eq_skeleton, k0_part23_eq_skeleton, k0_part24_eq_skeleton, k0_part25_eq_skeleton,
    k0_part26_eq_skeleton, k0_part27_eq_skeleton, k0_part28_eq_skeleton, k0_part29_eq_skeleton, k0_part30_eq_skeleton,
    k0_part31_eq_skeleton, k0_part32_eq_skeleton, k0_part33_eq_skeleton, k0_part34_eq_skeleton, k0_part35_eq_skeleton,
    k0_part36_eq_skeleton, k0_part37_eq_skeleton, k0_part38_eq_skeleton, k0_part39_eq_skeleton, k0_part40_eq_skeleton,
    k0_part41_eq_skeleton, k0_part42_eq_skeleton, k0_part43_eq_skeleton, k0_part44_eq_skeleton, k0_part45_eq_skeleton]
  unfold k0_part21_skel k0_part22_skel k0_part23_skel k0_part24_skel k0_part25_skel k0_part26_skel k0_part27_skel k0_part28_skel
    k0_part29_skel k0_part30_skel k0_part31_skel k0_part32_skel k0_part33_skel k0_part34_skel k0_part35_skel k0_part36_skel
    k0_part37_skel k0_part38_skel k0_part39_skel k0_part40_skel k0_part41_skel k0_part42_skel k0_part43_skel k0_part44_skel
    k0_part45_skel
  simp only [smemLoad, smemLoadElt, Prog.lift, Prog.bind_op, Prog.bind_ret, Prog.pure_eq_ret]
  refine step_wait_w m c 0 (by rfl) (by rfl) ?_
  refine step_load_v m c 0 rfl (step_load_u m c 0 (by decide) (by decide +revert +kernel) ?_)
  refine step_load_v m c 1 rfl (step_load_u m c 0 (by decide) (by decide +revert +kernel) ?_)
  refine step_load_v m c 2 rfl (step_load_u m c 0 (by decide) (by decide +revert +kernel) ?_)
  refine step_load_v m c 3 rfl (step_load_u m c 0 (by decide) (by decide +revert +kernel) ?_)
  refine step_load_v m c 4 rfl (step_load_u m c 0 (by decide) (by decide +revert +kernel) ?_)
  refine step_load_v m c 5 rfl (step_load_u m c 0 (by decide) (by decide +revert +kernel) ?_)
  refine step_load_v m c 6 rfl (step_load_u m c 0 (by decide) (by decide +revert +kernel) ?_)
  refine step_load_v m c 7 rfl (step_load_u m c 0 (by decide) (by decide +revert +kernel) ?_)
  refine step_load_sx m c (step_load_sw m c ?_)
  refine step_wait_recv m c _ _ (by rfl) (by rfl) (step_wait_w m c 1 (by rfl) (by rfl) ?_)
  refine step_load_g m c _ _ (by decide +revert +kernel) (step_load_u m c 1 (by decide) (by decide +revert +kernel) ?_)
  refine step_wait_recv m c _ _ (by rfl) (by rfl) (step_wait_w m c 2 (by rfl) (by rfl) ?_)
  refine step_load_g m c _ _ (by decide +revert +kernel) (step_load_u m c 2 (by decide) (by decide +revert +kernel) ?_)
  refine step_wait_recv m c _ _ (by rfl) (by rfl) (step_wait_w m c 3 (by rfl) (by rfl) ?_)
  refine step_load_g m c _ _ (by decide +revert +kernel) (step_load_u m c 3 (by decide) (by decide +revert +kernel) ?_)
  refine step_load_o m c fun _ => step_store_next m c (by decide) (by rfl) (by rfl) ?_
  iterate 7
    refine step_wait_recv m c _ _ (by rfl) (by rfl) ?_
    refine step_load_g m c _ _ (by decide +revert +kernel) (step_load_u m c 1 (by decide) (by decide +revert +kernel) ?_)
    refine step_wait_recv m c _ _ (by rfl) (by rfl) ?_
    refine step_load_g m c _ _ (by decide +revert +kernel) (step_load_u m c 2 (by decide) (by decide +revert +kernel) ?_)
    refine step_wait_recv m c _ _ (by rfl) (by rfl) ?_
    refine step_load_g m c _ _ (by decide +revert +kernel) (step_load_u m c 3 (by decide) (by decide +revert +kernel) ?_)
    refine step_load_o m c fun _ => step_store_next m c (by decide) (by rfl) (by rfl) ?_
  refine (to_wait_sends m c (by rfl)).trans ?_
  rw [order_eq, k0_part46_eq_skeleton, k0_part47_eq_skeleton, k0_part48_eq_skeleton, k0_part49_eq_skeleton, k0_part50_eq_skeleton]
  unfold k0_part46_skel k0_part47_skel k0_part48_skel k0_part49_skel k0_part50_skel
  simp only [Prog.lift, Prog.bind_op, Prog.bind_ret, Prog.pure_eq_ret]
  iterate 24 refine step_wait_send m c _ _ (by rfl) (by rfl) ?_
  refine (to_end m c (by rfl)).trans ?_
  rw [Runs, wp_ret]
  exact fupd_intro

end Cert.KernelIdealProof
-- ==== Proof.KernelIdealLaunch.lean ====
/-
The launch: the buffers cut into the pieces the body moves and joined again, the semaphores' invariants allocated, the
tokens dealt to the devices that pay, and the credits of the transfers.
-/
module

public import proofs.«01_k».proof.Proof.KernelIdealBody
public import Idealize.ShloMosaic.Lib.Ring

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The buffers in pieces -/

/-- The pieces of a buffer cut by devices: a device's own part, and the eight pieces of each other device's. -/
abbrev Part : Type := Unit ⊕ (Fin 3 × Fin 8)

/-- Parts told apart by a device number and a piece number cover the buffer, each index once. -/
theorem parts_cover {X : Type} [Fintype X] [DecidableEq X] (I : Part → Finset X) (a b : X → ℕ) (c : Dev nD) (t : Fin 3 → Dev nD)
    (ht : ∀ s : Dev nD, s ≠ c → ∃ d, t d = s) (hinj : ∀ d d', t d = t d' → d = d') (hne : ∀ d, t d ≠ c)
    (ha : ∀ i, a i < 4) (hb : ∀ i, b i < 8)
    (h0 : ∀ i, i ∈ I (.inl ()) ↔ a i = c.val) (h1 : ∀ i (p : Fin 3 × Fin 8), i ∈ I (.inr p) ↔ a i = (t p.1).val ∧ b i = p.2.val) :
    (∀ p p', p ≠ p' → Disjoint (I p) (I p')) ∧ Finset.univ.biUnion I = Finset.univ := by
  constructor
  · intro p p' hpp
    refine Finset.disjoint_left.mpr fun i hi hi' => hpp ?_
    rcases p with _ | p <;> rcases p' with _ | p'
    · rfl
    · exact absurd (Fin.ext (((h1 i p').mp hi').1.symm.trans ((h0 i).mp hi))) (hne p'.1)
    · exact absurd (Fin.ext (((h1 i p).mp hi).1.symm.trans ((h0 i).mp hi'))) (hne p.1)
    · have e := (h1 i p).mp hi
      have e' := (h1 i p').mp hi'
      exact congrArg Sum.inr (Prod.ext (hinj _ _ (Fin.ext (e.1.symm.trans e'.1))) (Fin.ext (e.2.symm.trans e'.2)))
  · refine Finset.eq_univ_iff_forall.mpr fun i => Finset.mem_biUnion.mpr ?_
    by_cases h : a i = c.val
    · exact ⟨.inl (), Finset.mem_univ _, (h0 i).mpr h⟩
    · obtain ⟨d, hd⟩ := ht ⟨a i, ha i⟩ fun e => h (congrArg Fin.val e)
      exact ⟨.inr (d, ⟨b i, hb i⟩), Finset.mem_univ _, (h1 i _).mpr ⟨(congrArg Fin.val hd).symm, rfl⟩⟩

theorem peer_inj : ∀ (c : Dev nD) (d d' : Fin 3), peer c d = peer c d' → d = d' := by decide
theorem peer_onto : ∀ (c s : Dev nD), s ≠ c → ∃ d, peer c d = s := by decide
theorem src_inj : ∀ (c : Dev nD) (d d' : Fin 3), src c d = src c d' → d = d' := by decide
theorem src_onto : ∀ (c s : Dev nD), s ≠ c → ∃ d, src c d = s := by decide
theorem wblk_inj : ∀ (c : Dev nD) (i i' : Fin 4), wblk c i = wblk c i' → i = i' := by decide
theorem wblk_onto : ∀ (c : Dev nD) (j : Fin 4), ∃ i, wblk c i = j := by decide

theorem unit_part (Φ : Unit → sProp (MT nD τ sig Unit (Elt F) ℕ UU ℕ)) : bigSep (Finset.univ : Finset Unit) Φ = Φ () := BI.bigSep_singleton (i := ())

/-- The parts of `x` on device `c`; -/
def xI (c : Dev nD) : Part → Finset S4096x1024.Idx
  | .inl _ => rows2 (1024 * c.val) 1024
  | .inr p => rows2 (1024 * (peer c p.1).val + 128 * p.2.val) 128
/-- the parts of its landing buffer, the other devices in the order `t`; -/
def gI (c : Dev nD) (t : Fin 3 → Dev nD) : Part → Finset S4x1024x1024.Idx
  | .inl _ => rows3 c.val 0 1024
  | .inr p => rows3 (t p.1).val (128 * p.2.val) 128
/-- the blocks of `w`; -/
def wI (c : Dev nD) (i : Fin 4) : Finset S4096x2048.Idx := rows2 (1024 * (wblk c i).val) 1024
/-- the slots they are copied to. -/
def uI (c : Dev nD) (i : Fin 4) : Finset S4x1024x2048.Idx := rows3 (wblk c i).val 0 1024

theorem xI_cover (c : Dev nD) : (∀ p p', p ≠ p' → Disjoint (xI c p) (xI c p')) ∧ Finset.univ.biUnion (xI c) = Finset.univ := by
  have hlt : ∀ i : S4096x1024.Idx, (i 0).val < 4096 := fun i => (i 0).isLt
  refine parts_cover (xI c) (fun i => (i 0).val / 1024) (fun i => (i 0).val % 1024 / 128) c (peer c) (peer_onto c) (peer_inj c) (peer_ne c)
    (fun i => by have := hlt i; dsimp only; omega) (fun i => by dsimp only; omega) (fun i => ?_) (fun i p => ?_)
  · unfold xI; rw [mem_rows2]; dsimp only; omega
  · unfold xI; rw [mem_rows2]; dsimp only; have := p.2.isLt; omega
theorem gI_cover (c : Dev nD) (t : Fin 3 → Dev nD)
    (ht : ∀ s : Dev nD, s ≠ c → ∃ d, t d = s) (hinj : ∀ d d', t d = t d' → d = d') (hne : ∀ d, t d ≠ c) :
    (∀ p p', p ≠ p' → Disjoint (gI c t p) (gI c t p')) ∧ Finset.univ.biUnion (gI c t) = Finset.univ := by
  have hlt : ∀ i : S4x1024x1024.Idx, (i 1).val < 1024 := fun i => (i 1).isLt
  refine parts_cover (gI c t) (fun i => (i 0).val) (fun i => (i 1).val / 128) c t ht hinj hne
    (fun i => (i 0).isLt) (fun i => by have := hlt i; dsimp only; omega) (fun i => ?_) (fun i p => ?_)
  · unfold gI; rw [mem_rows3]; dsimp only; have := hlt i; omega
  · unfold gI; rw [mem_rows3]; dsimp only; have := hlt i; have := p.2.isLt; omega
theorem wI_cover (c : Dev nD) : (∀ i i', i ≠ i' → Disjoint (wI c i) (wI c i')) ∧ Finset.univ.biUnion (wI c) = Finset.univ := by
  have hlt : ∀ i : S4096x2048.Idx, (i 0).val < 4096 := fun i => (i 0).isLt
  constructor
  · intro i i' hii
    refine Finset.disjoint_left.mpr fun x hx hx' => hii (wblk_inj c _ _ (Fin.ext ?_))
    unfold wI at hx hx'; rw [mem_rows2] at hx hx'; omega
  · refine Finset.eq_univ_iff_forall.mpr fun x => Finset.mem_biUnion.mpr ?_
    obtain ⟨i, hi⟩ := wblk_onto c ⟨(x 0).val / 1024, by have := hlt x; omega⟩
    refine ⟨i, Finset.mem_univ _, ?_⟩
    unfold wI; rw [mem_rows2, hi]; dsimp only; omega
theorem uI_cover (c : Dev nD) : (∀ i i', i ≠ i' → Disjoint (uI c i) (uI c i')) ∧ Finset.univ.biUnion (uI c) = Finset.univ := by
  have hlt : ∀ i : S4x1024x2048.Idx, (i 1).val < 1024 := fun i => (i 1).isLt
  constructor
  · intro i i' hii
    refine Finset.disjoint_left.mpr fun x hx hx' => hii (wblk_inj c _ _ (Fin.ext ?_))
    unfold uI at hx hx'; rw [mem_rows3] at hx hx'; omega
  · refine Finset.eq_univ_iff_forall.mpr fun x => Finset.mem_biUnion.mpr ?_
    obtain ⟨i, hi⟩ := wblk_onto c (x 0)
    refine ⟨i, Finset.mem_univ _, ?_⟩
    unfold uI; rw [mem_rows3, hi]; have := hlt x; omega

/-- The whole of `x` is the device's own rows and the pieces for the others. -/
theorem x_parts (c : Dev nD) : (((c : Thread nD τ).loc main_arg0) ↦{fullShare} xA m c : sProp 𝕄)
    = iprop(xOwn m c ∗ bigSep (Finset.univ : Finset (Fin 3 × Fin 8)) fun p => xPc m c (peer c p.1) p.2) := by
  rw [Ring.pointsTo_blocks (ℓ := (c : Thread nD τ).loc main_arg0) (xI c) (xI_cover c).1 (xI_cover c).2, bigSep_univ_sum, unit_part]
  rfl
/-- The whole of `w` is its four blocks. -/
theorem w_parts (c : Dev nD) : (((c : Thread nD τ).loc main_arg1) ↦{fullShare} wA m c : sProp 𝕄)
    = bigSep (Finset.univ : Finset (Fin 4)) fun i => wPc m c (wblk c i) := by
  rw [Ring.pointsTo_blocks (ℓ := (c : Thread nD τ).loc main_arg1) (wI c) (wI_cover c).1 (wI_cover c).2]
  rfl
/-- The buffer for `w`'s blocks is its four slots. -/
theorem u_parts (c : Dev nD) (f) : (((c : Thread nD τ).loc cc0_scratch2) ↦{fullShare} f : sProp 𝕄)
    = bigSep (Finset.univ : Finset (Fin 4)) fun i => uPc c (wblk c i) f := by
  rw [Ring.pointsTo_blocks (ℓ := (c : Thread nD τ).loc cc0_scratch2) (uI c) (uI_cover c).1 (uI_cover c).2]
  rfl
/-- The landing buffer is the slot nobody writes and the pieces of the other slots, at the start -/
theorem g_split (c : Dev nD) (f) : (((c : Thread nD τ).loc cc0_scratch0) ↦{fullShare} f : sProp 𝕄)
    ⊢ iprop(ownSlot c ∗ bigSep (Finset.univ : Finset (Fin 3 × Fin 8)) fun p => iprop(∃ f, gPc c (peer c p.1) p.2 f)) := by
  have hc := gI_cover c (peer c) (peer_onto c) (peer_inj c) (peer_ne c)
  rw [Ring.pointsTo_blocks (ℓ := (c : Thread nD τ).loc cc0_scratch0) (gI c (peer c)) hc.1 hc.2, bigSep_univ_sum, unit_part]
  refine BI.sep_mono ?_ (bigSep_mono fun p _ => ?_)
  · show _ ⊢ (ownSlot c : sProp 𝕄)
    unfold ownSlot gI; iintro H; iexists f; iexact H
  · show _ ⊢ (iprop(∃ f, gPc c (peer c p.1) p.2 f) : sProp 𝕄)
    unfold gPc gI; iintro H; iexists f; iexact H
/-- and at the end. -/
theorem g_join (c : Dev nD) : iprop(ownSlot c ∗ bigSep (Finset.univ : Finset (Fin 3 × Fin 8)) fun p => gPc c (src c p.1) p.2 (landed m c))
    ⊢ (iprop(∃ f, ((c : Thread nD τ).loc cc0_scratch0) ↦{fullShare} f) : sProp 𝕄) := by
  have hc := gI_cover c (src c) (src_onto c) (src_inj c) (src_ne c)
  refine BIBase.Entails.trans ?_ (Ring.pointsTo_blocks_join_exists (ℓ := (c : Thread nD τ).loc cc0_scratch0) (gI c (src c)) hc.1 hc.2 (landed m c))
  rw [bigSep_univ_sum, unit_part]
  refine BI.sep_mono ?_ (bigSep_mono fun p _ => ?_)
  · show (ownSlot c : sProp 𝕄) ⊢ iprop(∃ f, _)
    unfold ownSlot gI; iintro ⟨%f, H⟩; iexists f; iexact H
  · show (gPc c (src c p.1) p.2 (landed m c) : sProp 𝕄) ⊢ iprop(∃ f, _)
    unfold gPc gI; iintro H; iexists (landed m c); iexact H

/-! ## Groups -/

theorem join2 {I : Type} (S : Finset I) (Φ Ψ : I → sProp (MT nD τ sig Unit (Elt F) ℕ UU ℕ)) :
    iprop(bigSep S Φ ∗ bigSep S Ψ) ⊢ bigSep S fun i => iprop(Φ i ∗ Ψ i) := Entails.of_eq (bigSep_sep' _ _ _).symm
theorem cut2 {I : Type} (S : Finset I) (Φ Ψ : I → sProp (MT nD τ sig Unit (Elt F) ℕ UU ℕ)) :
    (bigSep S fun i => iprop(Φ i ∗ Ψ i)) ⊢ iprop(bigSep S Φ ∗ bigSep S Ψ) := Entails.of_eq (bigSep_sep' _ _ _)
theorem all3 (Φ : Fin 3 → sProp (MT nD τ sig Unit (Elt F) ℕ UU ℕ)) : bigSep (Finset.univ : Finset (Fin 3)) Φ = iprop(Φ 0 ∗ Φ 1 ∗ Φ 2) :=
  bigSep_univ_eq_bigSepL [0, 1, 2] (by decide) (by decide) Φ
theorem all4 (Φ : Fin 4 → sProp (MT nD τ sig Unit (Elt F) ℕ UU ℕ)) : bigSep (Finset.univ : Finset (Fin 4)) Φ = iprop(Φ 0 ∗ Φ 1 ∗ Φ 2 ∗ Φ 3) :=
  bigSep_univ_eq_bigSepL [0, 1, 2, 3] (by decide) (by decide) Φ

/-- Something of each of the kernel's own semaphores, kind by kind; -/
theorem own_groups (Φ : SemLoc sig → sProp (MT nD τ sig Unit (Elt F) ℕ UU ℕ)) : (bigSep (Finset.univ : Finset Own) fun o => Φ (osem o))
    = iprop((bigSep (Finset.univ : Finset (Fin 3 × Fin 8)) fun p => Φ (.dma (sendQ p.1 p.2)))
      ∗ (bigSep (Finset.univ : Finset (Fin 3 × Fin 8)) fun p => Φ (.dma (recvQ p.1 p.2)))
      ∗ Φ (.dma xQ) ∗ bigSep (Finset.univ : Finset (Fin 4)) fun i => Φ (.dma (wQ i))) := by
  rw [bigSep_univ_sum, bigSep_univ_sum, bigSep_univ_sum, unit_part]
  rfl
/-- of each scheduled semaphore. -/
theorem sem_groups (Φ : SemLoc sig → sProp (MT nD τ sig Unit (Elt F) ℕ UU ℕ)) : (bigSep (Finset.univ : Finset (Unit ⊕ Own)) fun i => Φ (csem i))
    = iprop(Φ (.reg barS) ∗ bigSep (Finset.univ : Finset Own) fun o => Φ (osem o)) := by
  rw [bigSep_univ_sum, unit_part]
  rfl

/-! ## The tokens, dealt to the devices that pay -/

/-- What a device pays: its three signals, its transfers' two ends, its own copies. -/
abbrev Paid : Type := Fin 3 ⊕ (Fin 3 × Fin 8) ⊕ (Fin 3 × Fin 8) ⊕ Unit ⊕ Fin 4
instance paidDec : DecidableEq Paid := inferInstance
def tokOf (cj : Dev nD × Paid) : GSem nD τ sig × ℕ × Dev nD := match cj.2 with
  | .inl d => (barCell (peer cj.1 d), 0, cj.1)
  | .inr (.inl p) => (sendCell cj.1 p.1 p.2, 0, 0)
  | .inr (.inr (.inl p)) => (recvCell (peer cj.1 p.1) p.1 p.2, 0, 0)
  | .inr (.inr (.inr (.inl _))) => (xCell cj.1, 0, 0)
  | .inr (.inr (.inr (.inr i))) => (wCell cj.1 i, 0, 0)

/-- Which of the three others `t` is, seen from `c`. -/
def dist (c t : Dev nD) : Fin 3 := ⟨(t.val + 3 - c.val) % 4 % 3, Nat.mod_lt _ (by decide)⟩
theorem dist_peer : ∀ (c : Dev nD) (d : Fin 3), dist c (peer c d) = d := by decide

/-- Who pays a token, and which of its payments that is. -/
def paidBy (x : GSem nD τ sig × ℕ × Dev nD) : Dev nD × Paid := match use x.1.2 with
  | .bar => (x.2.2, .inl (dist x.2.2 x.1.1.1))
  | .send d k => (x.1.1.1, .inr (.inl (d, k)))
  | .recv d k => (src x.1.1.1 d, .inr (.inr (.inl (d, k))))
  | .x => (x.1.1.1, .inr (.inr (.inr (.inl ()))))
  | .w i => (x.1.1.1, .inr (.inr (.inr (.inr i))))
  | .other => (0, .inl 0)
theorem paidBy_tokOf : Function.LeftInverse paidBy tokOf := by
  rintro ⟨c, d | p | p | u | i⟩ <;> unfold paidBy tokOf <;> dsimp only
  · rw [use_bar]; dsimp only; rw [dist_peer]
  · rw [use_send]
  · rw [use_recv]; dsimp only; rw [src_peer]
  · rw [use_x]
  · rw [use_w]

/-- Which scheduled semaphore a cell is. -/
def whichSem (g : GSem nD τ sig) : Dev nD × (Unit ⊕ Own) := match use g.2 with
  | .bar => (g.1.1, .inl ())
  | .send d k => (g.1.1, .inr (.inl (d, k)))
  | .recv d k => (g.1.1, .inr (.inr (.inl (d, k))))
  | .x => (g.1.1, .inr (.inr (.inr (.inl ()))))
  | .w i => (g.1.1, .inr (.inr (.inr (.inr i))))
  | .other => (0, .inl ())
theorem whichSem_kcell : Function.LeftInverse whichSem kcell := by
  rintro ⟨c, u | p | p | u | i⟩ <;> unfold whichSem kcell csem <;> dsimp only
  · rw [use_bar]
  · unfold osem; dsimp only; rw [use_send]
  · unfold osem; dsimp only; rw [use_recv]
  · unfold osem; dsimp only; rw [use_x]
  · unfold osem; dsimp only; rw [use_w]

def allCells : Finset (GSem nD τ sig) := Finset.univ.map ⟨kcell, whichSem_kcell.injective⟩
def allToks : Finset (GSem nD τ sig × ℕ × Dev nD) := Finset.univ.map ⟨tokOf, paidBy_tokOf.injective⟩

/-- The launch element: the pipeline library's and this protocol's. -/
def u₀ : UU := (initOf (Pipeline.cells cfgs cellOf_inj) (Pipeline.launchToks cfgs cellOf_inj), initOf allCells allToks)

/-- The tokens of what device `c` pays. -/
def toks (c : Dev nD) : sProp 𝕄 := bigSep (Finset.univ : Finset Paid) fun j => dutyTok ER (tokOf (c, j)).1 (tokOf (c, j)).2.1 (tokOf (c, j)).2.2
theorem toks_groups (c : Dev nD) : (toks c : sProp 𝕄)
    = iprop((bigSep (Finset.univ : Finset (Fin 3)) fun d => dutyTok ER (barCell (peer c d)) 0 c)
      ∗ (bigSep (Finset.univ : Finset (Fin 3 × Fin 8)) fun p => dutyTok ER (sendCell c p.1 p.2) 0 (0 : Dev nD))
      ∗ (bigSep (Finset.univ : Finset (Fin 3 × Fin 8)) fun p => dutyTok ER (recvCell (peer c p.1) p.1 p.2) 0 (0 : Dev nD))
      ∗ dutyTok ER (xCell c) 0 (0 : Dev nD) ∗ bigSep (Finset.univ : Finset (Fin 4)) fun i => dutyTok ER (wCell c i) 0 (0 : Dev nD)) := by
  unfold toks
  rw [bigSep_univ_sum, bigSep_univ_sum, bigSep_univ_sum, bigSep_univ_sum, unit_part]
  rfl

/-- The places of device `c` in its own cells. -/
def places (c : Dev nD) : sProp 𝕄 := bigSep (Finset.univ : Finset (Unit ⊕ Own)) fun i => atPos ER (kcell (c, i)) 0 ∅ 0

/-- What the launch element deals device `c`, -/
def G (c : Dev nD) : sProp 𝕄 :=
  iprop((bigSep (Finset.univ : Finset (Unit ⊕ Own)) fun i => roundState ER (sched m) (kcell (c, i)) 0)
    ∗ (bigSep (Finset.univ : Finset (Unit ⊕ Own)) fun i => reached ER (kcell (c, i)) 0) ∗ places c ∗ toks c)
/-- and what it holds once the invariants are allocated. -/
def G' (c : Dev nD) : sProp 𝕄 := iprop(records m ∗ places c ∗ toks c)

theorem fund_all : BI.own (ER (initOf allCells allToks)) ⊢ (|==> bigSep Finset.univ (G m) : sProp 𝕄) := by
  have hX (Φ : GSem nD τ sig → sProp 𝕄) : bigSep allCells Φ = bigSep Finset.univ fun c : Dev nD => bigSep (Finset.univ : Finset (Unit ⊕ Own)) fun i => Φ (kcell (c, i)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]; rfl
  iintro HX
  imod (Rounds.fund ER (sched m) allCells allToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G places; simp only [bigSep_sep']
  isplitl [Hst']; · iexact Hst'
  isplitl [Hr']; · iexact Hr'
  isplitl [Hat']; · iexact Hat'
  iexact Htok'

/-- The launch's semaphores outside the kernel's own: the barrier. -/
theorem unscopedSems0_eq (c : Dev nD) : (unscopedSems0 c : sProp 𝕄) = semVal (barCell c) 0 := by
  unfold unscopedSems0; rw [bigSep_eq_bigSepL_of_eq [SemLoc.reg barS] (by decide +kernel) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep (Finset.univ : Finset (Unit ⊕ Own)) fun i => semVal (kcell (c, i)) 0 : sProp 𝕄) := by
  rw [unscopedSems0_eq]
  refine BIBase.Entails.trans ?_ (Entails.of_eq (sem_groups (F := F) fun sm => semVal ((c : Thread nD τ), sm) 0).symm)
  unfold Pipeline.ownSems0
  iintro ⟨H1, H2⟩
  isplitl [H2]; · iexact H2
  iexact H1

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep (Finset.univ : Finset (Unit ⊕ Own)) fun i => known m (kcell (c, i))) ∗ (places c ∗ toks c)) := by
  have hk : iprop((bigSep (Finset.univ : Finset (Unit ⊕ Own)) fun i => semVal (kcell (c, i)) 0) ∗ bigSep (Finset.univ : Finset (Unit ⊕ Own)) fun i => roundState ER (sched m) (kcell (c, i)) 0)
      ⊢ (|={Set.univ}=> bigSep (Finset.univ : Finset (Unit ⊕ Own)) fun i => iprop(∃ κ : ℕ, cellInv ER (sched m) κ (kcell (c, i))) : sProp 𝕄) := by
    rw [← bigSep_sep']
    exact (bigSep_mono fun i _ => (Rounds.body_intro ER (sched m) (kcell (c, i))).trans inv_alloc).trans (bigSep_fupd _ _)
  unfold G
  iintro ⟨Hos, Hus, Hst, Hr, Hat, Htok⟩
  ihave Hv := (sems0_eq (F := F) c) $$ [Hos Hus]
  · isplitl [Hos] <;> iassumption
  imod hk $$ [Hv Hst] with Hinv
  · isplitl [Hv] <;> iassumption
  imodintro
  isplitl [Hinv Hr]
  · ihave H := (join2 (F := F) (Finset.univ : Finset (Unit ⊕ Own)) _ _) $$ [Hinv Hr]
    · isplitl [Hinv]; · iexact Hinv
      iexact Hr
    iapply (show (bigSep (Finset.univ : Finset (Unit ⊕ Own)) fun i => iprop((∃ κ : ℕ, cellInv ER (sched m) κ (kcell (c, i))) ∗ reached ER (kcell (c, i)) 0) : sProp 𝕄)
      ⊢ bigSep (Finset.univ : Finset (Unit ⊕ Own)) fun i => known m (kcell (c, i)) from bigSep_mono fun i _ => by
        show iprop((∃ κ : ℕ, cellInv ER (sched m) κ (kcell (c, i))) ∗ reached ER (kcell (c, i)) 0) ⊢ (known m (kcell (c, i)) : sProp 𝕄)
        unfold known
        iintro ⟨⟨%κ, H⟩, Hr⟩
        iexists κ
        isplitl [H] <;> iassumption)
    iexact H
  isplitl [Hat]; · iexact Hat
  iexact Htok

theorem regroup : (bigSep Finset.univ fun c : Dev nD => iprop((bigSep (Finset.univ : Finset (Unit ⊕ Own)) fun i => known m (kcell (c, i))) ∗ (places c ∗ toks c)) : sProp 𝕄)
    ⊢ bigSep Finset.univ (G' m) := by
  refine (cut2 (F := F) Finset.univ (fun c : Dev nD => bigSep (Finset.univ : Finset (Unit ⊕ Own)) fun i => known m (kcell (c, i))) fun c => iprop(places c ∗ toks c)).trans ?_
  rw [← bigSep_univ_prod (fun ci : Dev nD × (Unit ⊕ Own) => (known m (kcell ci) : sProp 𝕄))]
  show iprop(records m ∗ bigSep Finset.univ fun c : Dev nD => iprop(places c ∗ toks c)) ⊢ (bigSep Finset.univ (G' m) : sProp 𝕄)
  refine BIBase.Entails.trans ?_ (join2 (F := F) (Finset.univ : Finset (Dev nD)) (fun _ => records m) fun c => iprop(places c ∗ toks c))
  iintro ⟨HR, H⟩
  isplitl [HR]
  · iapply (BI.bigSep_of_persistent (Finset.univ : Finset (Dev nD)) (records m)); iexact HR
  · iexact H

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credits -/

theorem creds_recv (c : Dev nD) : ∀ l : List (Fin 3 × Fin 8), (Pipeline.launchCred (fun d => owedL d l) c : sProp 𝕄)
    ⊢ bigSepL l fun p => cred (tallyAt (recvCell c p.1 p.2) () nP)
  | [] => Entails.of_eq (Pipeline.launchCred_zero c)
  | p :: l => by
    rw [seqL_cons]
    refine (Entails.of_eq (Pipeline.launchCred_add (fun d => owedL d l) (fun d => tallyAt (recvCell (peer d p.1) p.1 p.2) () nP) c)).trans ?_
    have h := Pipeline.launchCred_tallyAt (Val := Elt F) (Name := ℕ) (U := UU) (Lvl := ℕ) (τ := τ) (.dma (recvQ p.1 p.2)) (fun d : Dev nD => peer d p.1) (fun d => src d p.1)
      (fun d => peer_src d p.1) (fun d => src_peer d p.1) () nP c
    have h' := creds_recv c l
    iintro ⟨H1, H2⟩
    isplitl [H2]
    · iapply h; iexact H2
    · iapply h'; iexact H1

/-- The credits dealt to device `c`: three units at its barrier, and each piece it receives. -/
def creds (c : Dev nD) : sProp 𝕄 := iprop(cred (tallyAt (barCell c) () 3) ∗ bigSep (Finset.univ : Finset (Fin 3 × Fin 8)) fun p => cred (tallyAt (recvCell c p.1 p.2) () nP))
theorem creds_intro (c : Dev nD) : (Pipeline.launchCred O₀ c : sProp 𝕄) ⊢ creds c := by
  have hb : ∀ d : Fin 3, (Pipeline.launchCred (fun c' => tallyAt (barCell (peer c' d)) () 1) c : sProp 𝕄) ⊢ cred (tallyAt (barCell c) () 1) := fun d =>
    Pipeline.launchCred_tallyAt (.reg barS) (fun d' : Dev nD => peer d' d) (fun d' => src d' d) (fun d' => peer_src d' d) (fun d' => src_peer d' d) () 1 c
  have hadd : ∀ n : ℕ, iprop(cred (tallyAt (barCell c) () n) ∗ cred (tallyAt (barCell c) () 1)) ⊢ (cred (tallyAt (barCell c) () (n + 1)) : sProp 𝕄) := fun n =>
    (cred_add _ _).2.trans (Entails.of_eq (congrArg cred (tallyAt_add _ _ _ _)))
  have hr := creds_recv (F := F) c order
  have hO : (Pipeline.launchCred O₀ c : sProp 𝕄) = iprop(((Pipeline.launchCred (fun d => owedL d order) c ∗ Pipeline.launchCred (fun c' => tallyAt (barCell (peer c' 2)) () 1) c)
      ∗ Pipeline.launchCred (fun c' => tallyAt (barCell (peer c' 1)) () 1) c) ∗ Pipeline.launchCred (fun c' => tallyAt (barCell (peer c' 0)) () 1) c) := by
    rw [← Pipeline.launchCred_add, ← Pipeline.launchCred_add, ← Pipeline.launchCred_add]; rfl
  rw [hO]
  unfold creds
  rw [all_pieces]
  iintro ⟨⟨⟨Hr, H2⟩, H1⟩, H0⟩
  isplitl [H2 H1 H0]
  · ihave H2' := (hb 2) $$ H2
    ihave H1' := (hb 1) $$ H1
    ihave H0' := (hb 0) $$ H0
    iapply (hadd 2)
    isplitl [H2' H1']
    · iapply (hadd 1)
      isplitl [H2'] <;> iassumption
    · iexact H0'
  · iapply hr; iexact Hr

end Cert.KernelIdealProof
-- ==== Proof.KernelIdealRun.lean ====
/-
The run: the body under the pipeline library's obligation, the launch's side conditions, and what every final state of the
program holds on every device.
-/
module

public import proofs.«01_k».proof.Proof.KernelIdealLaunch
public import proofs.«01_k».proof.Proof.Gen.KernelIdeal.Frame
public import Idealize.ShloMosaic.Lib.Pipeline.Value
public import Idealize.ShloMosaic.Lib.Pipeline.FrameBody
public import Idealize.ShloMosaic.Lib.Pipeline.CollectiveSegs

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What a device holds before and after the body, beside its staging buffers -/

/-- The two arguments the kernel reads directly, unchanged. -/
def argsAt (c : Dev nD) : sProp 𝕄 := iprop((((c : Thread nD τ).loc main_arg0) ↦{fullShare} xA m c) ∗ (((c : Thread nD τ).loc main_arg1) ↦{fullShare} wA m c))
/-- The landing buffer, the buffer for the own rows and the buffer for `w`'s blocks, at any contents. -/
def scratch (c : Dev nD) : sProp 𝕄 :=
  iprop((∃ f, ((c : Thread nD τ).loc cc0_scratch0) ↦{fullShare} f) ∗ (∃ f, vPc c f) ∗ (∃ f, ((c : Thread nD τ).loc cc0_scratch2) ↦{fullShare} f))
/-- The invariants' records, the places, the tokens, the credits, the levels, and the arguments. -/
def start (c : Dev nD) : sProp 𝕄 := iprop(G' m c ∗ creds c ∗ levAts L lv ∗ argsAt m c)
/-- All semaphores at zero. -/
def zeros (c : Dev nD) : sProp 𝕄 :=
  iprop(semVal (barCell c) 0 ∗ bigSep (Finset.univ : Finset Own) fun o => semVal ((c : Thread nD τ), osem o) 0)

/-- What the three signals take. -/
theorem to_sigs (c : Dev nD) : iprop((bigSep (Finset.univ : Finset (Fin 3)) fun d => dutyTok ER (barCell (peer c d)) 0 c)
      ∗ bigSep (Finset.univ : Finset (Fin 3 × Fin 8)) fun p => iprop(∃ f, gPc c (peer c p.1) p.2 f))
    ⊢ (iprop(takeSig c 0 ∗ takeSig c 1 ∗ takeSig c 2) : sProp 𝕄) := by
  rw [bigSep_univ_prod, ← all3 (F := F) (fun d => takeSig c d)]
  refine (join2 (F := F) (Finset.univ : Finset (Fin 3)) _ _).trans (bigSep_mono fun d _ => ?_)
  show _ ⊢ (takeSig c d : sProp 𝕄)
  unfold takeSig barPay
  exact Entails.of_eq rfl

/-- What the copies of `w`'s blocks take. -/
theorem to_ws (c : Dev nD) (f) : iprop((((c : Thread nD τ).loc main_arg1) ↦{fullShare} wA m c) ∗ (((c : Thread nD τ).loc cc0_scratch2) ↦{fullShare} f)
      ∗ bigSep (Finset.univ : Finset (Fin 4)) fun i => dutyTok ER (wCell c i) 0 (0 : Dev nD))
    ⊢ (iprop(takeW m c 0 ∗ takeW m c 1 ∗ takeW m c 2 ∗ takeW m c 3) : sProp 𝕄) := by
  rw [w_parts, u_parts, ← all4 (F := F) (fun i => takeW m c i), ← bigSep_sep', ← bigSep_sep']
  refine bigSep_mono fun i _ => ?_
  show iprop(wPc m c (wblk c i) ∗ uPc c (wblk c i) f ∗ dutyTok ER (wCell c i) 0 (0 : Dev nD)) ⊢ (takeW m c i : sProp 𝕄)
  unfold takeW
  iintro ⟨H1, H2, H3⟩
  isplitl [H1]; · iexact H1
  isplitl [H2]; · iexists f; iexact H2
  iexact H3

/-- What the transfers take. -/
theorem to_sendPre (c : Dev nD) : iprop((bigSep (Finset.univ : Finset (Fin 3 × Fin 8)) fun p => xPc m c (peer c p.1) p.2)
      ∗ (bigSep (Finset.univ : Finset (Fin 3 × Fin 8)) fun p => dutyTok ER (sendCell c p.1 p.2) 0 (0 : Dev nD))
      ∗ (bigSep (Finset.univ : Finset (Fin 3 × Fin 8)) fun p => dutyTok ER (recvCell (peer c p.1) p.1 p.2) 0 (0 : Dev nD)))
    ⊢ (sendPre m c : sProp 𝕄) := by
  unfold sendPre
  rw [bigSep_sep', bigSep_sep']

/-- What the waits take. -/
theorem to_waitPre (c : Dev nD) : iprop((bigSep (Finset.univ : Finset Own) fun o => atPos ER ((c : Thread nD τ), osem o) 0 ∅ 0)
      ∗ (bigSep (Finset.univ : Finset (Fin 3 × Fin 8)) fun p => cred (tallyAt (recvCell c p.1 p.2) () nP)))
    ⊢ (waitPre c : sProp 𝕄) := by
  rw [own_groups (F := F) (fun sm => atPos ER ((c : Thread nD τ), sm) 0 ∅ 0)]
  unfold waitPre pend
  iintro ⟨⟨Hs, Hr, Hx, Hw⟩, Hc⟩
  isplitl [Hx]; · iexact Hx
  isplitl [Hw]; · iexact Hw
  isplitl [Hr Hc]
  · iapply (join2 (F := F) (Finset.univ : Finset (Fin 3 × Fin 8)) _ _)
    isplitl [Hc]; · iexact Hc
    iexact Hr
  iexact Hs

/-- The body's start, from what the launch deals and the staging buffers. -/
theorem to_start (c : Dev nD) : iprop(start m c ∗ scratch c ∗ owesAny c (O₀ c) ∗ scl m c ∗ outSt m c 0) ⊢ (bodyStart m c : sProp 𝕄) := by
  unfold start scratch G' argsAt creds bodyStart
  iintro ⟨⟨⟨HR, Hpl, Htok⟩, ⟨Hcb, Hcr⟩, Hlev, Hx, Hw⟩, ⟨⟨%f0, Hg⟩, Hv, ⟨%f2, Hu⟩⟩, HO, Hscl, Hout⟩
  ihave Ht := (Entails.of_eq (toks_groups (F := F) c)) $$ Htok
  icases Ht with ⟨Htb, Hts, Htr, Htx, Htw⟩
  ihave Hp := (show (places c : sProp 𝕄) ⊢ iprop(atPos ER (barCell c) 0 ∅ 0 ∗ bigSep (Finset.univ : Finset Own) fun o => atPos ER ((c : Thread nD τ), osem o) 0 ∅ 0) from
    Entails.of_eq (sem_groups (F := F) fun sm => atPos ER ((c : Thread nD τ), sm) 0 ∅ 0)) $$ Hpl
  icases Hp with ⟨Hpb, Hpo⟩
  ihave Hx' := (Entails.of_eq (x_parts m c)) $$ Hx
  icases Hx' with ⟨Hxo, Hxp⟩
  ihave Hg' := (g_split (F := F) c f0) $$ Hg
  icases Hg' with ⟨Hslot, Hgp⟩
  isplitl [HR]; · iexact HR
  isplitl [HO]; · iexact HO
  isplitl [Hxo Hv Htx Hw Hu Htw]
  · isplitl [Hxo Hv Htx]
    · unfold takeX
      isplitl [Hxo]; · iexact Hxo
      isplitl [Hv]; · iexact Hv
      iexact Htx
    · iapply (to_ws m c f2)
      isplitl [Hw]; · iexact Hw
      isplitl [Hu]; · iexact Hu
      iexact Htw
  isplitl [Htb Hgp]
  · iapply (to_sigs (F := F) c)
    isplitl [Htb]; · iexact Htb
    iexact Hgp
  isplitl [Hlev Hcb Hpb]
  · unfold barHold
    isplitl [Hlev]; · iexact Hlev
    isplitl [Hcb]; · iexact Hcb
    iexact Hpb
  isplitl [Hxp Hts Htr]
  · iapply (to_sendPre m c)
    isplitl [Hxp]; · iexact Hxp
    isplitl [Hts]; · iexact Hts
    iexact Htr
  isplitl [Hpo Hcr]
  · iapply (to_waitPre (F := F) c)
    isplitl [Hpo]; · iexact Hpo
    iexact Hcr
  isplitl [Hslot]; · iexact Hslot
  isplitl [Hscl]; · iexact Hscl
  iexact Hout

/-- What waits on a family of semaphores leave: the semaphores at zero, and what the payments handed over. -/
theorem done_cut {I : Type} [Fintype I] (c : Dev nD) (q : I → DmaSem sig) (P : I → sProp (MT nD τ sig Unit (Elt F) ℕ UU ℕ)) (h : ∀ i, pay m c 0 (useQ (q i)) = P i) :
    (bigSep (Finset.univ : Finset I) fun i => done m c (q i))
      ⊢ iprop((bigSep (Finset.univ : Finset I) fun i => semVal ((c : Thread nD τ), .dma (q i)) 0) ∗ bigSep (Finset.univ : Finset I) P) := by
  rw [← bigSep_sep']
  refine bigSep_mono fun i _ => ?_
  show (done m c (q i) : sProp 𝕄) ⊢ iprop(semVal ((c : Thread nD τ), .dma (q i)) 0 ∗ P i)
  unfold done
  rw [h]

/-- The body's end, joined again. -/
theorem from_end (c : Dev nD) : (bodyEnd m c : sProp 𝕄) ⊢ iprop((zeros c ∗ scratch c ∗ argsAt m c) ∗ owesAny c 0 ∗ scl m c ∗ outSt m c 8) := by
  have hx : (done m c xQ : sProp 𝕄) = iprop(semVal (xCell c) 0 ∗ vPc c (xvC m c) ∗ xOwn m c) := by
    unfold done pay; rw [useQ_x]
  unfold bodyEnd
  rw [hx]
  iintro ⟨HO, Hzb, ⟨Hzx, Hv, Hxo⟩, Hw, Hr, Hs, Hslot, Hscl, Hout⟩
  ihave Hw' := (done_cut m c wQ (fun i => iprop(uPc c (wblk c i) (wvC m c) ∗ wPc m c (wblk c i))) fun i => by unfold pay; rw [useQ_w]) $$ Hw
  icases Hw' with ⟨Hzw, Hw⟩
  ihave Hw' := (cut2 (F := F) (Finset.univ : Finset (Fin 4)) _ _) $$ Hw
  icases Hw' with ⟨Hu, Hw⟩
  ihave Hr' := (done_cut m c (fun p : Fin 3 × Fin 8 => recvQ p.1 p.2) (fun p => gPc c (src c p.1) p.2 (landed m c)) fun p => by unfold pay; rw [useQ_recv]) $$ Hr
  icases Hr' with ⟨Hzr, Hg⟩
  ihave Hs' := (done_cut m c (fun p : Fin 3 × Fin 8 => sendQ p.1 p.2) (fun p => xPc m c (peer c p.1) p.2) fun p => by unfold pay; rw [useQ_send]) $$ Hs
  icases Hs' with ⟨Hzs, Hx⟩
  isplitr [HO Hscl Hout]
  · isplitl [Hzb Hzx Hzw Hzr Hzs]
    · unfold zeros
      isplitl [Hzb]; · iexact Hzb
      iapply (Entails.of_eq (own_groups (F := F) fun sm => semVal ((c : Thread nD τ), sm) 0).symm)
      isplitl [Hzs]; · iexact Hzs
      isplitl [Hzr]; · iexact Hzr
      isplitl [Hzx]; · iexact Hzx
      iexact Hzw
    isplitl [Hslot Hg Hv Hu]
    · unfold scratch
      isplitl [Hslot Hg]
      · iapply (g_join m c)
        isplitl [Hslot]; · iexact Hslot
        iexact Hg
      isplitl [Hv]; · iexists (xvC m c); iexact Hv
      iexists (wvC m c)
      iapply (Entails.of_eq (u_parts (F := F) c (wvC m c)).symm)
      iexact Hu
    · unfold argsAt
      isplitl [Hxo Hx]
      · iapply (Entails.of_eq (x_parts m c).symm)
        isplitl [Hxo]; · iexact Hxo
        iexact Hx
      · iapply (Entails.of_eq (w_parts m c).symm)
        iexact Hw
  isplitl [HO]; · iexact HO
  isplitl [Hscl]; · iexact Hscl
  iexact Hout

/-! ## The proof data -/

def Φ₀ (c : Dev nD) : sProp 𝕄 := iprop(start m c ∗ scratch c)
def Φ₁ (c : Dev nD) : sProp 𝕄 := iprop(zeros c ∗ scratch c ∗ argsAt m c)

/-- The proof data: the scales stay, the result's block holds `outC`. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => sxC m c
    | ⟨1, _⟩ => swC m c
    | ⟨2, _⟩ => outC m c
  Φ t := match t with
    | ⟨0, _⟩ => Φ₀ m c
    | ⟨_ + 1, _⟩ => Φ₁ m c
  q _ := fullShare
  owed t := match t with
    | ⟨0, _⟩ => O₀ c
    | ⟨_ + 1, _⟩ => 0

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m c ∗ (dats m ρ 0 c).owesAt () t0_0.castSucc
    ∗ (∃ d, stg c cc0_stg0_0 ((dats m ρ 0 c).before (0 : Fin 3) t0_0 d)) ∗ (∃ d, stg c cc0_stg1_0 ((dats m ρ 0 c).before (1 : Fin 3) t0_0 d))
    ∗ (∃ d, stg c cc0_stg2_0 ((dats m ρ 0 c).before (2 : Fin 3) t0_0 d)))
def bodyPost (c : Dev nD) : sProp 𝕄 :=
  iprop(Φ₁ m c ∗ (dats m ρ 0 c).owesAt () t0_0.succ ∗ stg c cc0_stg0_0 (sxC m c) ∗ stg c cc0_stg1_0 (swC m c) ∗ stg c cc0_stg2_0 (outC m c))

/-! Each window's one block is its whole array. -/

theorem read_sx (c : Dev nD) (f : Buf (Elt F) ((c : Thread nD τ).loc main_arg2)) : (win0_0.blk t0_0).view.read (Elt F) f = f :=
  Memref.read_access_unit_zero (Elt F) main_arg2
    (show (fun a => (win0_0.index t0_0) a * main_arg2.ty.shape.size a) = fun _ => 0 from funext fun a => by fin_cases a <;> decide)
    (fun a => by fin_cases a <;> decide) f
theorem read_sw (c : Dev nD) (f : Buf (Elt F) ((c : Thread nD τ).loc main_arg3)) : (win0_1.blk t0_0).view.read (Elt F) f = f :=
  Memref.read_access_unit_zero (Elt F) main_arg3
    (show (fun a => (win0_1.index t0_0) a * main_arg3.ty.shape.size a) = fun _ => 0 from funext fun a => by fin_cases a <;> decide)
    (fun a => by fin_cases a <;> decide) f
theorem read_out (c : Dev nD) (f : Buf (Elt F) ((c : Thread nD τ).loc main_v1)) : (win0_2.blk t0_0).view.read (Elt F) f = f :=
  Memref.read_access_unit_zero (Elt F) main_v1
    (show (fun a => (win0_2.index t0_0) a * main_v1.ty.shape.size a) = fun _ => 0 from funext fun a => by fin_cases a <;> decide)
    (fun a => by fin_cases a <;> decide) f

theorem before_sx (c : Dev nD) (d) : (dats m ρ 0 c).before (0 : Fin 3) t0_0 d = sxC m c := by
  unfold Dat.before; rw [if_pos (fetch0_0 t0_0)]
  exact Eq.trans (by rfl) (read_sx c (m ((c : Thread nD τ).loc main_arg2)))
theorem before_sw (c : Dev nD) (d) : (dats m ρ 0 c).before (1 : Fin 3) t0_0 d = swC m c := by
  unfold Dat.before; rw [if_pos (fetch0_1 t0_0)]
  exact Eq.trans (by rfl) (read_sw c (m ((c : Thread nD τ).loc main_arg3)))

theorem pre_start (c : Dev nD) : bodyPre m ρ c ⊢ (bodyStart m c : sProp 𝕄) := by
  unfold bodyPre Φ₀
  iintro ⟨⟨Hs, Hscr⟩, Ho, ⟨%d0, %g0, %hg0, H0⟩, ⟨%d1, %g1, %hg1, H1⟩, ⟨%d2, %g2, %hg2, H2⟩⟩
  rw [before_sx] at hg0
  rw [before_sw] at hg1
  subst hg0 hg1
  iapply (to_start m c)
  isplitl [Hs]; · iexact Hs
  isplitl [Hscr]; · iexact Hscr
  isplitl [Ho]
  · unfold Dat.owesAt Pipeline.owesWithin owesAny
    icases Ho with ⟨%W, %hW, HO⟩
    iexists W; iexact HO
  isplitl [H0 H1]
  · unfold scl
    isplitl [H0] <;> iassumption
  unfold outSt
  iexists g2
  isplitr
  · ipureintro; intro i h; exact absurd h (Nat.not_lt_zero _)
  iexact H2

theorem end_post (c : Dev nD) : (bodyEnd m c : sProp 𝕄) ⊢ bodyPost m ρ c := by
  refine (from_end m c).trans ?_
  unfold bodyPost Φ₁ scl outSt owesAny Dat.owesAt Pipeline.owesWithin
  rw [show (dats m ρ 0 c).owed t0_0.succ = 0 from rfl]
  iintro ⟨H, ⟨%W, HO⟩, ⟨H0, H1⟩, ⟨%g, %hg, H2⟩⟩
  have hg' : g = outC m c := funext fun i => hg i (by have h : (i 0).val < 1024 := (i 0).isLt; omega)
  isplitl [H]; · iexact H
  isplitl [HO]
  · iexists W
    isplitr; · ipureintro; exact fun _ _ => Or.inl trivial
    iexact HO
  isplitl [H0]
  · iexists _; isplitr; · (ipureintro; rfl)
    iexact H0
  isplitl [H1]
  · iexists _; isplitr; · (ipureintro; rfl)
    iexact H1
  iexists g; isplitr; · (ipureintro; exact hg')
  iexact H2

theorem defs₀_row (t : Fin cfg0.N) : defs₀ (F := F) .tc cfg0.body (cfg0.bodyArgs t (cfg0.slots t)) = bodyAt0 t := by
  unfold defs₀; rw [Defs.onTc_tc]

theorem body_at (c : Dev nD) : bodyPre m ρ c ⊢ Runs c (theBody (F := F)) (fun _ => bodyPost m ρ c) :=
  (pre_start m ρ c).trans ((body_runs m c).trans (wp_mono frame _ Set.univ fun _ => end_post m ρ c))

/-- The library's body obligation on device `c`. -/
theorem body_obligation (c : Dev nD) : BodyObligation (dats (F := F) m ρ 0 c) (defs₀ (F := F)) 𝒱₀ () Set.univ := fun t => by
  rw [fin_N0 t]
  rw [bigSep_W0, bigSep_W0, defs₀_row]
  simp only [owns_whole_eq]
  exact triple_restated (body_at m ρ c) rfl .rfl fun _ => .rfl

/-! ## The launch's side conditions -/

theorem ownSemFacts : Pipeline.OwnSemFacts cfg0.spec osem := by decide +kernel

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  iintro ⟨Ha, Hlev, Hcr, -, HG⟩
  ihave Hc := (creds_intro (F := F) c) $$ Hcr
  imodintro
  unfold start
  isplitl
  · isplitl [HG]; · iexact HG
    isplitl [Hc]; · iexact Hc
    isplitl [Hlev]; · iexact Hlev
    unfold argsAt
    iexact Ha
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scratch vPc
  iintro ⟨Hs, -, Hr⟩
  isplitl [Hs]; · iexact Hs
  iexact Hr

theorem phi1_exit (c : Dev nD) :
    (dats m ρ 0 c).Φ (Fin.last cfg0.N) ⊢ iprop((unscopedSems0 c ∗ argsAt m c) ∗ Pipeline.ownSems0 osem c ∗ Pipeline.scopedRest cfg0.spec c) := by
  rw [show (dats m ρ 0 c).Φ (Fin.last cfg0.N) = Φ₁ m c from rfl, scopedRest0_eq, unscopedSems0_eq]
  unfold Φ₁ zeros scratch vPc Pipeline.ownSems0
  iintro ⟨⟨Hb, Ho⟩, Hr, Ha⟩
  isplitl [Hb Ha]
  · isplitl [Hb] <;> iassumption
  isplitl [Ho]; · iexact Ho
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-- The arguments' points-to, beside a state, say that its memory holds them. -/
theorem args_read (c : Dev nD) (s' : Phys nD τ sig (Elt F)) : iprop(argsAt m c ∗ SI s')
    ⊢ (⌜s'.mem.mem ((c : Thread nD τ).loc main_arg0) = m ((c : Thread nD τ).loc main_arg0)
      ∧ s'.mem.mem ((c : Thread nD τ).loc main_arg1) = m ((c : Thread nD τ).loc main_arg1)⌝ : sProp 𝕄) := by
  unfold argsAt
  iintro ⟨⟨H0, H1⟩, HSI⟩
  icombine HSI H0 gives %h0
  icombine HSI H1 gives %h1
  ipureintro
  exact ⟨funext fun i => h0 i (Finset.mem_univ i), funext fun i => h1 i (Finset.mem_univ i)⟩

/-! ## The run -/

theorem final_out (c : Dev nD) : (dats m ρ 0 c).arrAt (2 : Fin 3) cfg0.N = outC m c := by
  have hw : ((cfg0.win 2).blk t0_0).view.read (Elt F) ((dats m ρ 0 c).arrAt (2 : Fin 3) cfg0.N) = (dats m ρ 0 c).flushed (2 : Fin 3) t0_0 := by
    rw [show cfg0.N = t0_0.val + 1 from rfl, (dats m ρ 0 c).arrAt_succ (2 : Fin 3) t0_0, flush0_2, if_pos rfl]
    exact View.read_write_univ _ _
  have hf : (dats m ρ 0 c).flushed (2 : Fin 3) t0_0 = outC m c := by
    show (cfg0.win 2).cut _ ((dats m ρ 0 c).after (2 : Fin 3) t0_0) = _
    exact funext fun _ => rfl
  rw [hf] at hw
  exact (read_out c _).symm.trans hw

/-- The result on every device, the arguments unchanged. -/
def Final (s : MemSt nD τ sig (Elt F)) : Prop := ∀ c : Dev nD,
  s.mem ((c : Thread nD τ).loc main_v1) = outC m c
  ∧ s.mem ((c : Thread nD τ).loc main_arg0) = m ((c : Thread nD τ).loc main_arg0)
  ∧ s.mem ((c : Thread nD τ).loc main_arg1) = m ((c : Thread nD τ).loc main_arg1)
  ∧ s.mem ((c : Thread nD τ).loc main_arg2) = m ((c : Thread nD τ).loc main_arg2)
  ∧ s.mem ((c : Thread nD τ).loc main_arg3) = m ((c : Thread nD τ).loc main_arg3)

set_option maxRecDepth 8000 in
/-- From any memory with zero counters every weakly fair execution of the program on the four devices terminates; every
    final state holds the result on each device, the arguments unchanged and every semaphore at zero. -/
theorem run_main : θ_run defs (onTc (τ := τ) (main (F := F))) (s₀ m ρ) (fun r => Final m r.2 ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := start m) (Y := fun c => iprop(unscopedSems0 c ∗ argsAt m c)) (Z := fun _ => iprop(emp))
    (hX := start_intro m ρ) (hin := phi0_intro m ρ) (hout := phi1_exit m ρ)
    (QY := fun c s => (s.mem ((c : Thread nD τ).loc main_arg0) = m ((c : Thread nD τ).loc main_arg0)
        ∧ s.mem ((c : Thread nD τ).loc main_arg1) = m ((c : Thread nD τ).loc main_arg1))
      ∧ ∀ sm : SemLoc sig, sm.isScoped .tc = false → s.sem ((c.tc : Thread nD τ), sm) = 0)
    (hY := fun c s' => by
      iintro ⟨⟨Hu, Ha⟩, -, HSI⟩
      ihave %ha := (args_read m c s') $$ [Ha HSI]
      · isplitl [Ha] <;> iassumption
      imod (Pipeline.unscopedSems0_read (X := unscopedSems0 c) (c := c) fupd_intro s') $$ [Hu HSI] with ⟨%hs, HSI⟩
      · isplitl [Hu] <;> iassumption
      imodintro
      isplitr
      · ipureintro; exact ⟨ha, hs⟩
      iexact HSI)
    (hQ := fun s h hs => ⟨fun c => ⟨((h c).1 (2 : Fin 3)).trans (final_out m ρ c), (h c).2.2.1.1, (h c).2.2.1.2,
        ((h c).1 (0 : Fin 3)).trans ((dats m ρ 0 c).arrAt_in (0 : Fin 3) rfl _), ((h c).1 (1 : Fin 3)).trans ((dats m ρ 0 c).arrAt_in (1 : Fin 3) rfl _)⟩,
      sem_eq_zero hs fun c => (h c).2.2.2⟩)

end Cert.KernelIdealProof
-- ==== Proof.Values.lean ====
/-
The value: over the extended reals what every device computes is its block of rows of the reference's result.
-/
module

public import proofs.«01_k».proof.Proof.KernelIdealCompute
public import proofs.«01_k».proof.Proof.Gen.ReferenceIdeal.Run
public import Idealize.ShloMosaic.Lib.Pointwise
public import Idealize.ShloMosaic.Lib.Layout

@[expose] public section

noncomputable section

namespace Cert.ValueProof

open Idealize.ShloMosaic Idealize.ShloMosaic.TcCoe
open Cert.KernelIdealProof

/-- The product of the whole arrays, at a row and a column: an entry is an integer, read exactly. -/
def dot (x : Cert.ReferenceIdeal.S4096x4096.Idx → BitVec 8) (w : Cert.ReferenceIdeal.S4096x2048.Idx → BitVec 8) (r : Fin 4096) (l : Fin 2048) : EReal :=
  ∑ k : Fin 4096, (((x (ix2 r k)).toInt : ℝ) : EReal) * (((w (ix2 k l)).toInt : ℝ) : EReal)

/-- The part of it that device `s` holds the columns of `x` for. -/
def dotPart (x : Cert.ReferenceIdeal.S4096x4096.Idx → BitVec 8) (w : Cert.ReferenceIdeal.S4096x2048.Idx → BitVec 8) (r : Fin 4096) (l : Fin 2048) (s : Fin 4) : EReal :=
  ∑ k : Fin 1024, (((x (ix2 r ⟨s.val * 1024 + k.val, by omega⟩)).toInt : ℝ) : EReal) * (((w (ix2 ⟨s.val * 1024 + k.val, by omega⟩ l)).toInt : ℝ) : EReal)

/-- The whole product is the sum of its four parts. -/
theorem dot_eq_parts (x w r l) : dot x w r l = ∑ s : Fin 4, dotPart x w r l s :=
  Fin.sum_univ_tiles 4 1024 rfl _

/-- A sum over the four devices may be taken in the order in which device `c` receives. -/
theorem parts_order (f : Fin 4 → EReal) (c : Fin 4) : ((f c + f (src c 0)) + f (src c 2)) + f (src c 1) = ∑ s, f s := by
  rw [Fin.sum_univ_four]
  fin_cases c
  · show ((f 0 + f 3) + f 1) + f 2 = _; abel
  · show ((f 1 + f 0) + f 2) + f 3 = _; abel
  · show ((f 2 + f 1) + f 3) + f 0 = _; abel
  · show ((f 3 + f 2) + f 0) + f 1 = _; abel

theorem one_add_exp_ne (y : EReal) : 1 + Ideal.exp y ≠ 0 := by
  have h : (0 : EReal) ≤ Ideal.exp y := by
    induction y with
    | bot => exact le_rfl
    | top => exact le_top
    | coe r => exact EReal.coe_nonneg.mpr (Real.exp_pos r).le
  exact ne_of_gt (lt_of_lt_of_le zero_lt_one (le_add_of_nonneg_right h))

/-- `y · σ(y)` is `y / (1 + e^(-y))`, the infinities included. -/
theorem silu_eq (y : EReal) : y * Ideal.logistic y = Ideal.div y (1 + Ideal.exp (-y)) := by
  unfold Ideal.logistic Ideal.div
  rw [if_neg (one_add_exp_ne _), if_neg (one_add_exp_ne _), one_mul]

/-! ## The reference -/

/-- An int8 widened to 32 bits is the same integer. -/
theorem toInt_widen (b : BitVec 8) : (b.signExtend 32).toInt = b.toInt := BitVec.toInt_signExtend_of_le (by decide)

/-- The reference's result: the product, scaled, through `y / (1 + e^(-y))`. -/
def refOut (x : IVec Cert.ReferenceIdeal.S4096x4096 8) (w : IVec Cert.ReferenceIdeal.S4096x2048 8) (sx sw : FVec Ideal Cert.ReferenceIdeal.S1 .f32) :
    FVec Ideal Cert.ReferenceIdeal.S4096x2048 .f32 := fun i =>
  Ideal.div (dot x w (i 0) (i 1) * (sx (ix1 0) * sw (ix1 0))) (1 + Ideal.exp (-(dot x w (i 0) (i 1) * (sx (ix1 0) * sw (ix1 0)))))

open Cert.ReferenceIdeal Cert.ReferenceIdeal.Gen in
/-- It is what the reference's operations compose. -/
theorem ref_term (x : IVec S4096x4096 8) (w : IVec S4096x2048 8) (sx sw : FVec Ideal S1 .f32) :
    Host.divf (mulf (Host.dotGeneral dot_S4096x4096_S4096x2048_S4096x2048_1_0_0_1_n_n none (sitofp .f32 (extsi 32 x natLt_8_32)) (sitofp .f32 (extsi 32 w natLt_8_32)))
        (broadcastInDim S4096x2048 ![0, 1] bcast_S1x1_S4096x2048_0_1 (broadcastInDim S1x1 ![1] bcast_S1_S1x1_1 (mulf sx sw))))
      (addf (broadcastInDim S4096x2048 ![] bcast_S_S4096x2048 (constant S_ .f32 0x3F800000#32))
        (Host.exp (Host.negf (mulf (Host.dotGeneral dot_S4096x4096_S4096x2048_S4096x2048_1_0_0_1_n_n none (sitofp .f32 (extsi 32 x natLt_8_32)) (sitofp .f32 (extsi 32 w natLt_8_32)))
          (broadcastInDim S4096x2048 ![0, 1] bcast_S1x1_S4096x2048_0_1 (broadcastInDim S1x1 ![1] bcast_S1_S1x1_1 (mulf sx sw)))))))
    = refOut x w sx sw := by
  funext i
  have h : dot x w (i 0) (i 1) = ∑ k : Fin 4096, FloatOps.sitofp (F := Ideal) .f32 (BitVec.signExtend 32 (x (ix2 (i 0) k)))
      * FloatOps.sitofp (F := Ideal) .f32 (BitVec.signExtend 32 (w (ix2 k (i 1)))) :=
    Finset.sum_congr rfl fun k _ => by
      show _ = (((BitVec.signExtend 32 (x (ix2 (i 0) k))).toInt : ℝ) : EReal) * (((BitVec.signExtend 32 (w (ix2 k (i 1)))).toInt : ℝ) : EReal)
      rw [toInt_widen, toInt_widen]
  unfold refOut
  rw [h]
  pointwise [dot_S4096x4096_S4096x2048_S4096x2048_1_0_0_1_n_n]

/-! ## The kernel -/

open Cert.KernelIdeal Cert.KernelIdeal.Gen

/-- A product of two int8 entries. -/
def prod (a b : BitVec 8) : EReal := ((a.toInt : ℝ) : EReal) * ((b.toInt : ℝ) : EReal)

/-- The first partial product, at an index; -/
theorem first_apply (v : Vec Ideal S128x1024 .i8) (u : Vec Ideal S1x1024x2048 .i8) (r : Fin 128) (l : Fin 2048) :
    k0_pay1 v u (ix2 r l) = ∑ k : Fin 1024, prod (v (ix2 r k)) (u (ix3 0 k l)) := by
  pointwise [k0_pay1, dot_S128x1024_S1024x2048_S128x2048_1_0_0_1_n_n]
  rfl

/-- a further one, added to what there is; -/
theorem next_apply (a : FVec Ideal S128x2048 .f32) (v : Vec Ideal S1x128x1024 .i8) (u : Vec Ideal S1x1024x2048 .i8) (r : Fin 128) (l : Fin 2048) :
    k0_pay11 a v u (ix2 r l) = a (ix2 r l) + ∑ k : Fin 1024, prod (v (ix3 0 r k)) (u (ix3 0 k l)) := by
  pointwise [k0_pay11, dot_S128x1024_S1024x2048_S128x2048_1_0_0_1_n_n]
  rfl

/-- the last, scaled and multiplied by its logistic. -/
theorem last_apply (s : EReal) (a : FVec Ideal S128x2048 .f32) (v : Vec Ideal S1x128x1024 .i8) (u : Vec Ideal S1x1024x2048 .i8) (j : S128x2048.Idx) :
    k0_pay13 (F := Ideal) s a v u j = (k0_pay11 a v u j * s) * Ideal.logistic (k0_pay11 a v u j * s) := rfl

variable (m : (ℓ : Loc nD τ sig) → Buf (Elt Ideal) ℓ)
variable (x : IVec Cert.ReferenceIdeal.S4096x4096 8) (w : IVec Cert.ReferenceIdeal.S4096x2048 8) (sx sw : FVec Ideal Cert.ReferenceIdeal.S1 .f32)

/-- Device `c`'s memory at launch holds its block of the columns of `x`, and the other arguments whole. -/
def Holds (c : Dev nD) : Prop :=
  xA m c = Layout.block ⟨2, ![4096, 1024]⟩ ⟨2, ![4096, 4096]⟩ 1 4 c x ∧ wA m c = w ∧ sxC m c = sx ∧ swC m c = sw

/-- An entry of device `s`'s block of `x` is an entry of the whole; -/
theorem x_entry {s : Dev nD} (h : Holds m x w sx sw s) (r : Fin 4096) (k : Fin 1024) :
    xA m s (ix2 r k) = x (ix2 r ⟨s.val * 1024 + k.val, by have : s.val < 4 := s.isLt; omega⟩) := by
  rw [h.1, Layout.block_apply]
  exact congrArg x (funext fun b => match b with
    | ⟨0, _⟩ => rfl
    | ⟨1, _⟩ => rfl)

/-- The row of the whole result that is row `r` of strip `e` on device `c`. -/
def row (c : Fin 4) (e : Fin 8) (r : Fin 128) : Fin 4096 := ⟨c.val * 1024 + (128 * e.val + r.val), by omega⟩

/-- the own rows: -/
theorem own_entry {c : Dev nD} (h : Holds m x w sx sw c) (e : Fin 8) (r : Fin 128) (k : Fin 1024) :
    vVal m c e (ix2 r k) = x (ix2 (row c e r) ⟨c.val * 1024 + k.val, by have : c.val < 4 := c.isLt; omega⟩) := by
  rw [← x_entry m x w sx sw h]
  exact congrArg (fun q => xA m c (ix2 q k)) (Fin.ext (by show 1024 * c.val + (128 * e.val + r.val) = c.val * 1024 + (128 * e.val + r.val); omega))

/-- the received ones: -/
theorem got_entry {c : Dev nD} {d : Fin 3} (h : Holds m x w sx sw (src c d)) (e : Fin 8) (r : Fin 128) (k : Fin 1024) :
    gVal m c d e (ix3 0 r k) = x (ix2 (row c e r) ⟨(src c d).val * 1024 + k.val, by have : (src c d).val < 4 := (src c d).isLt; omega⟩) := by
  rw [← x_entry m x w sx sw h]
  exact congrArg (fun q => xA m (src c d) (ix2 q k)) (Fin.ext (by show 1024 * c.val + (128 * e.val + r.val) = c.val * 1024 + (128 * e.val + r.val); omega))

/-- and the fetched blocks of `w`. -/
theorem w_entry {c : Dev nD} (h : Holds m x w sx sw c) (n s : Fin 4) (hs : wblk c n = s) (k : Fin 1024) (l : Fin 2048) :
    uVal m c n (ix3 0 k l) = w (ix2 ⟨s.val * 1024 + k.val, by omega⟩ l) := by
  subst hs
  rw [← h.2.1]
  exact congrArg (fun q => wA m c (ix2 q l)) (Fin.ext (by show 1024 * (wblk c n).val + k.val = (wblk c n).val * 1024 + k.val; omega))

theorem wblk_0 (c : Dev nD) : wblk c 0 = c := by revert c; decide
theorem wblk_1 (c : Dev nD) : wblk c 1 = src c 0 := by revert c; decide
theorem wblk_2 (c : Dev nD) : wblk c 2 = src c 2 := by revert c; decide
theorem wblk_3 (c : Dev nD) : wblk c 3 = src c 1 := by revert c; decide

/-- The first partial product is the device's own part of the whole product; -/
theorem own_part {c : Dev nD} (h : Holds m x w sx sw c) (e : Fin 8) (r : Fin 128) (l : Fin 2048) :
    (∑ k : Fin 1024, prod (vVal m c e (ix2 r k)) (uVal m c 0 (ix3 0 k l))) = dotPart x w (row c e r) l c :=
  Finset.sum_congr rfl fun k _ => by
    rw [own_entry m x w sx sw h, w_entry m x w sx sw h 0 c (wblk_0 c)]; rfl

/-- a further one is the part of the device that sent its rows. -/
theorem got_part {c : Dev nD} (h : ∀ c, Holds m x w sx sw c) (d : Fin 3) (n : Fin 4) (hn : wblk c n = src c d) (e : Fin 8) (r : Fin 128) (l : Fin 2048) :
    (∑ k : Fin 1024, prod (gVal m c d e (ix3 0 r k)) (uVal m c n (ix3 0 k l))) = dotPart x w (row c e r) l (src c d) :=
  Finset.sum_congr rfl fun k _ => by
    rw [got_entry m x w sx sw (h _), w_entry m x w sx sw (h c) n _ hn]; rfl

/-- What device `c` adds up for an entry is the whole product there. -/
theorem acc_eq (h : ∀ c, Holds m x w sx sw c) (c : Dev nD) (e : Fin 8) (r : Fin 128) (l : Fin 2048) :
    k0_pay11 (k0_pay12 (k0_pay11 (k0_pay1 (vVal m c e) (uVal m c 0)) (gVal m c 0 e) (uVal m c 1)) (gVal m c 2 e) (uVal m c 2))
      (gVal m c 1 e) (uVal m c 3) (ix2 r l) = dot x w (row c e r) l := by
  have h12 : @k0_pay12 Ideal _ = k0_pay11 := rfl
  rw [h12, next_apply, next_apply, next_apply, first_apply, own_part m x w sx sw (h c), got_part m x w sx sw h 0 1 (wblk_1 c),
    got_part m x w sx sw h 2 2 (wblk_2 c), got_part m x w sx sw h 1 3 (wblk_3 c), dot_eq_parts]
  exact parts_order (dotPart x w (row c e r) l) c

/-- An entry of a strip is the reference's entry in its row. -/
theorem strip_eq (h : ∀ c, Holds m x w sx sw c) (c : Dev nD) (e : Fin 8) (r : Fin 128) (l : Fin 2048) :
    outK m c e (ix2 r l) = refOut x w sx sw (ix2 (row c e r) l) := by
  have hs : scal m c = sx (ix1 0) * sw (ix1 0) := by rw [← (h c).2.2.1, ← (h c).2.2.2]; rfl
  unfold outK
  rw [last_apply, acc_eq m x w sx sw h c, silu_eq, hs]
  rfl

/-- The equation: each device's result is its block of rows of the reference's. -/
theorem out_eq (h : ∀ c, Holds m x w sx sw c) (c : Dev nD) :
    outC m c = Layout.block ⟨2, ![1024, 2048]⟩ ⟨2, ![4096, 2048]⟩ 0 4 c (refOut x w sx sw) := by
  funext i
  rw [Layout.block_apply]
  have hi : (i 0).val < 1024 := (i 0).isLt
  refine Eq.trans (strip_eq m x w sx sw h c ⟨(i 0).val / 128, by omega⟩ ⟨(i 0).val % 128, Nat.mod_lt _ (by decide)⟩ (i 1)) ?_
  exact congrArg (refOut x w sx sw) (funext fun b => match b with
    | ⟨0, _⟩ => Fin.ext (by show c.val * 1024 + (128 * ((i 0).val / 128) + (i 0).val % 128) = c.val * 1024 + (i 0).val; omega)
    | ⟨1, _⟩ => rfl)

end Cert.ValueProof
-- ==== Proof.lean ====
/-
The claims of this directory, from the two runs of the kernel (at bit patterns and at extended reals) and the run of the
reference.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KernelRun
public import proofs.«01_k».proof.Proof.KernelIdealRun
public import proofs.«01_k».proof.Proof.Values
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- The kernel's frame at bit patterns: it runs, its arguments end unchanged and every semaphore at zero. -/
theorem frame_kernel : @Cert.quiescent_Kernel Cert.Kernel.Gen.facts := fun m g _ =>
  (θ_run _ _ _).mono (fun _ h => ⟨fun c => (h.1 c).2, h.2⟩) (Cert.KernelProof.run_main (F := Bits) m g)

/-- The kernel's frame at extended reals. -/
theorem frame_ideal : @Cert.quiescent_KernelIdeal Cert.KernelIdeal.Gen.facts := fun m g _ =>
  (θ_run _ _ _).mono (fun _ h => ⟨fun c => (h.1 c).2, h.2⟩) (Cert.KernelIdealProof.run_main (F := Ideal) m g)

/-- The reference's frame: its program declares no semaphore. -/
theorem frame_reference : @Cert.quiescent_ReferenceIdeal Cert.ReferenceIdeal.Gen.facts := fun m g _ =>
  (θ_run _ _ _).mono (fun r h => ⟨fun c => (h c).2, sem_eq_zero_of_no_sems (by rfl) r.2⟩) (Cert.ReferenceIdeal.Value.run (F := Ideal) m g)

/-- The value: with the arguments cut over the devices, each device's result is its block of the reference's. -/
theorem value : @Cert.algebraic_KernelIdeal_ReferenceIdeal Cert.KernelIdeal.Gen.facts Cert.ReferenceIdeal.Gen.facts := fun m g m' g' _ hm => by
  refine ⟨Cert.ValueProof.refOut _ _ _ _,
    (θ_run _ _ _).mono (fun _ h c => ⟨(h.1 c).1.trans (Cert.ValueProof.out_eq m _ _ _ _ hm c), (h.1 c).2⟩) (Cert.KernelIdealProof.run_main (F := Ideal) m g),
    (θ_run _ _ _).mono (fun _ h => ⟨(h 0).1.trans (Cert.ValueProof.ref_term _ _ _ _), (h 0).2⟩) (Cert.ReferenceIdeal.Value.run (F := Ideal) m' g')⟩

/-- Everything claimed. -/
theorem claim : Cert.Claim := ⟨Cert.Kernel.Gen.facts, Cert.KernelIdeal.Gen.facts, Cert.ReferenceIdeal.Gen.facts,
  frame_kernel, frame_ideal, frame_reference, trivial, value⟩

end Cert.Proof

end
